-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_v259) = v1 c
          ∧ r.2.mem ((c.tc : Thread Cert.ReferenceIdeal.nD Cert.ReferenceIdeal.τ).loc Cert.ReferenceIdeal.main_v260) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x512 : Shape := ⟨3, ![8, 1024, 512]⟩
abbrev S8x2048x512 : Shape := ⟨3, ![8, 2048, 512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_

variable [Facts]

def fn {F : FTy → Type} [FloatOps F] (main_arg0 : FVec F S8x1024x512 .f32) (main_arg1 : FVec F S8x2048x512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== Kernel.lean ====
abbrev S8x1024x512 : Shape := ⟨3, ![8, 1024, 512]⟩
abbrev S8x2048x512 : Shape := ⟨3, ![8, 2048, 512]⟩
abbrev S8192x512 : Shape := ⟨2, ![8192, 512]⟩
abbrev S16x8x512 : Shape := ⟨3, ![16, 8, 512]⟩
abbrev S1x1 : Shape := ⟨2, ![1, 1]⟩
abbrev S512x512 : Shape := ⟨2, ![512, 512]⟩
abbrev S1x8x512 : Shape := ⟨3, ![1, 8, 512]⟩
abbrev S8x2048 : Shape := ⟨2, ![8, 2048]⟩
abbrev S1x2048 : Shape := ⟨2, ![1, 2048]⟩
abbrev S1x2048x512 : Shape := ⟨3, ![1, 2048, 512]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1x256x1 : Shape := ⟨3, ![1, 256, 1]⟩
abbrev S1 : Shape := ⟨1, ![1]⟩
abbrev S1x1x1 : Shape := ⟨3, ![1, 1, 1]⟩
abbrev S1x256 : Shape := ⟨2, ![1, 256]⟩
abbrev S1x1x256 : Shape := ⟨3, ![1, 1, 256]⟩
abbrev S16x512x8 : Shape := ⟨3, ![16, 512, 8]⟩
abbrev S8x1024x8 : Shape := ⟨3, ![8, 1024, 8]⟩
abbrev S_ : Shape := ⟨0, ![]⟩

abbrev nBuf : Space → Nat
  | .hbm => 14
  | .vmem => 13
  | .smem => 1
  | _ => 0

abbrev bufTy : (tb : Table) → Fin (tcTables nBuf tb) → BufTy
  | .hbm, ⟨0, _⟩ => ⟨S8x1024x512, .f32⟩
  | .hbm, ⟨1, _⟩ => ⟨S8x2048x512, .f32⟩
  | .hbm, ⟨2, _⟩ => ⟨S8192x512, .f32⟩
  | .hbm, ⟨3, _⟩ => ⟨S8192x512, .f32⟩
  | .hbm, ⟨4, _⟩ => ⟨S16x8x512, .i32⟩
  | .hbm, ⟨5, _⟩ => ⟨S1x1, .f32⟩
  | .hbm, ⟨6, _⟩ => ⟨S8x1024x512, .f32⟩
  | .hbm, ⟨7, _⟩ => ⟨S16x512x8, .i32⟩
  | .hbm, ⟨8, _⟩ => ⟨S8x1024x8, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S8x2048x512, .f32⟩
  | .local _ .vmem, ⟨3, _⟩ => ⟨S512x512, .f32⟩
  | .local _ .vmem, ⟨4, _⟩ => ⟨S512x512, .f32⟩
  | .local _ .vmem, ⟨5, _⟩ => ⟨S1x8x512, .i32⟩
  | .local _ .vmem, ⟨6, _⟩ => ⟨S1x8x512, .i32⟩
  | .local _ .vmem, ⟨7, _⟩ => ⟨S1x1, .f32⟩
  | .local _ .vmem, ⟨8, _⟩ => ⟨S512x512, .f32⟩
  | .local _ .vmem, ⟨9, _⟩ => ⟨S512x512, .f32⟩
  | .local _ .vmem, ⟨10, _⟩ => ⟨S8x2048, .f32⟩
  | .local _ .vmem, ⟨11, _⟩ => ⟨S1x2048, .f32⟩
  | .local _ .vmem, ⟨12, _⟩ => ⟨S8x2048x512, .bf16⟩
  | .local _ .smem, ⟨0, _⟩ => ⟨S1x1, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg1 : BitVec 32 := BitVec.ofNat 32 (i 1).val
  let v8 : Index := Scalar.indexCast arg1
  let c0 : Index := 0#32
  let c0_4 : Index := 0#32
  ![v8.toNat, 0, 0]
def k0_off2 (i : grid0.Coords) : Fin 2 → Nat :=
  let arg1 : BitVec 32 := BitVec.ofNat 32 (i 1).val
  let v14 : Index := Scalar.indexCast arg1
  let c0_7 : Index := 0#32
  ![v14.toNat, 0]
def k0_off3 (i : grid0.Coords) : Fin 3 → Nat :=
  let c0_27 : Index := 0#32
  let arg1 : BitVec 32 := BitVec.ofNat 32 (i 1).val
  let v63 : Index := Scalar.indexCast arg1
  let c0_28 : Index := 0#32
  ![0, v63.toNat, 0]
def k0_off4 (i : grid0.Coords) : Fin 3 → Nat :=
  let c0_45 : Index := 0#32
  let arg1 : BitVec 32 := BitVec.ofNat 32 (i 1).val
  let v113 : Index := Scalar.indexCast arg1
  let c256_46 : Index := 256#32
  ![0, v113.toNat, 256]
def k0_cond3 (i : grid0.Coords) : BitVec 1 :=
  let arg1 : BitVec 32 := BitVec.ofNat 32 (i 1).val
  let c7_i32 : BitVec 32 := 7#32
  let v121 : BitVec 1 := Scalar.cmpi .eq arg1 c7_i32
  let v122 : BitVec 32 := Scalar.extui v121
  let c0_i32_52 : BitVec 32 := 0#32
  let v123 : BitVec 1 := Scalar.cmpi .ne v122 c0_i32_52
  v123

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S8x1024x512 : Shape := ⟨3, ![8, 1024, 512]⟩
abbrev S8x2048x512 : Shape := ⟨3, ![8, 2048, 512]⟩
abbrev S_ : Shape := ⟨0, ![]⟩
abbrev S1x2048x512 : Shape := ⟨3, ![1, 2048, 512]⟩
abbrev S2048x512 : Shape := ⟨2, ![2048, 512]⟩
abbrev S8x1024 : Shape := ⟨2, ![8, 1024]⟩
abbrev S8x1024x1 : Shape := ⟨3, ![8, 1024, 1]⟩
abbrev S512x2048 : Shape := ⟨2, ![512, 2048]⟩
abbrev S8x1024x2048 : Shape := ⟨3, ![8, 1024, 2048]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩
abbrev S8x1024x8 : Shape := ⟨3, ![8, 1024, 8]⟩

abbrev nBuf : Space → Nat
  | .hbm => 538
  | .vmem => 0
  | .smem => 0
  | _ => 0

abbrev hbmTy0_0 (i : Nat) : BufTy := match i % 128 with
  | 0 => ⟨S8x1024x512, .f32⟩
  | 1 => ⟨S8x2048x512, .f32⟩
  | 2 => ⟨S_, .f32⟩
  | 3 => ⟨S8x1024x512, .f32⟩
  | 4 => ⟨S1x2048x512, .f32⟩
  | 5 => ⟨S2048x512, .f32⟩
  | 6 => ⟨S8x1024x512, .f32⟩
  | 7 => ⟨S_, .f32⟩
  | 8 => ⟨S8x1024, .f32⟩
  | 9 => ⟨S8x1024x1, .f32⟩
  | 10 => ⟨S512x2048, .f32⟩
  | 11 => ⟨S8x1024x2048, .f32⟩
  | 12 => ⟨S_, .f32⟩
  | 13 => ⟨S8x1024x2048, .f32⟩
  | 14 => ⟨S8x1024x2048, .f32⟩
  | 15 => ⟨S8x1024x2048, .f32⟩
  | 16 => ⟨S8x1024x2048, .f32⟩
  | 17 => ⟨S2048x512, .f32⟩
  | 18 => ⟨S_, .f32⟩
  | 19 => ⟨S2048, .f32⟩
  | 20 => ⟨S1x1x2048, .f32⟩
  | 21 => ⟨S8x1024x2048, .f32⟩
  | 22 => ⟨S8x1024x2048, .f32⟩
  | 23 => ⟨S8x1024x2048, .i32⟩
  | 24 => ⟨S_, .f32⟩
  | 25 => ⟨S_, .i32⟩
  | 26 => ⟨S8x1024, .f32⟩
  | 27 => ⟨S8x1024, .i32⟩
  | 28 => ⟨S_, .i32⟩
  | 29 => ⟨S8x1024, .i32⟩
  | 30 => ⟨S8x1024, .i1⟩
  | 31 => ⟨S_, .i32⟩
  | 32 => ⟨S8x1024, .i32⟩
  | 33 => ⟨S8x1024, .i32⟩
  | 34 => ⟨S8x1024, .i32⟩
  | 35 => ⟨S8x1024x1, .i32⟩
  | 36 => ⟨S1, .i32⟩
  | 37 => ⟨S_, .i32⟩
  | 38 => ⟨S8x1024x1, .i32⟩
  | 39 => ⟨S8x1024x1, .i1⟩
  | 40 => ⟨S1x1x1, .i32⟩
  | 41 => ⟨S8x1024x1, .i32⟩
  | 42 => ⟨S8x1024x1, .i1⟩
  | 43 => ⟨S8x1024x1, .i1⟩
  | 44 => ⟨S_, .i1⟩
  | 45 => ⟨S8x1024, .i1⟩
  | 46 => ⟨S8x1024x512, .f32⟩
  | 47 => ⟨S8x1024x512, .i1⟩
  | 48 => ⟨S_, .f32⟩
  | 49 => ⟨S8x1024x512, .f32⟩
  | 50 => ⟨S8x1024x512, .f32⟩
  | 51 => ⟨S8x1024x512, .f32⟩
  | 52 => ⟨S8x1024x512, .f32⟩
  | 53 => ⟨S8x1024x512, .f32⟩
  | 54 => ⟨S_, .f32⟩
  | 55 => ⟨S_, .f32⟩
  | 56 => ⟨S_, .f32⟩
  | 57 => ⟨S_, .f32⟩
  | 58 => ⟨S8x1024x512, .f32⟩
  | 59 => ⟨S8x1024x512, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S8x1024x512, .f32⟩
  | 70 => ⟨S1x2048x512, .f32⟩
  | 71 => ⟨S2048x512, .f32⟩
  | 72 => ⟨S8x1024x512, .f32⟩
  | 73 => ⟨S_, .f32⟩
  | 74 => ⟨S8x1024, .f32⟩
  | 75 => ⟨S8x1024x1, .f32⟩
  | 76 => ⟨S512x2048, .f32⟩
  | 77 => ⟨S8x1024x2048, .f32⟩
  | 78 => ⟨S_, .f32⟩
  | 79 => ⟨S8x1024x2048, .f32⟩
  | 80 => ⟨S8x1024x2048, .f32⟩
  | 81 => ⟨S8x1024x2048, .f32⟩
  | 82 => ⟨S8x1024x2048, .f32⟩
  | 83 => ⟨S2048x512, .f32⟩
  | 84 => ⟨S_, .f32⟩
  | 85 => ⟨S2048, .f32⟩
  | 86 => ⟨S1x1x2048, .f32⟩
  | 87 => ⟨S8x1024x2048, .f32⟩
  | 88 => ⟨S8x1024x2048, .f32⟩
  | 89 => ⟨S8x1024x2048, .i32⟩
  | 90 => ⟨S_, .f32⟩
  | 91 => ⟨S_, .i32⟩
  | 92 => ⟨S8x1024, .f32⟩
  | 93 => ⟨S8x1024, .i32⟩
  | 94 => ⟨S_, .i32⟩
  | 95 => ⟨S8x1024, .i32⟩
  | 96 => ⟨S8x1024, .i1⟩
  | 97 => ⟨S_, .i32⟩
  | 98 => ⟨S8x1024, .i32⟩
  | 99 => ⟨S8x1024, .i32⟩
  | 100 => ⟨S8x1024, .i32⟩
  | 101 => ⟨S8x1024x1, .i32⟩
  | 102 => ⟨S1, .i32⟩
  | 103 => ⟨S_, .i32⟩
  | 104 => ⟨S8x1024x1, .i32⟩
  | 105 => ⟨S8x1024x1, .i1⟩
  | 106 => ⟨S1x1x1, .i32⟩
  | 107 => ⟨S8x1024x1, .i32⟩
  | 108 => ⟨S8x1024x1, .i1⟩
  | 109 => ⟨S8x1024x1, .i1⟩
  | 110 => ⟨S_, .i1⟩
  | 111 => ⟨S8x1024, .i1⟩
  | 112 => ⟨S8x1024x512, .f32⟩
  | 113 => ⟨S8x1024x512, .i1⟩
  | 114 => ⟨S_, .f32⟩
  | 115 => ⟨S8x1024x512, .f32⟩
  | 116 => ⟨S8x1024x512, .f32⟩
  | 117 => ⟨S8x1024x512, .f32⟩
  | 118 => ⟨S8x1024x512, .f32⟩
  | 119 => ⟨S8x1024x512, .f32⟩
  | 120 => ⟨S_, .f32⟩
  | 121 => ⟨S_, .f32⟩
  | 122 => ⟨S_, .f32⟩
  | 123 => ⟨S_, .f32⟩
  | 124 => ⟨S8x1024x512, .f32⟩
  | 125 => ⟨S8x1024x512, .f32⟩
  | 126 => ⟨S_, .f32⟩
  | 127 => ⟨S_, .f32⟩
  | _ => ⟨S8x1024x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S8x1024x512, .f32⟩
  | 7 => ⟨S1x2048x512, .f32⟩
  | 8 => ⟨S2048x512, .f32⟩
  | 9 => ⟨S8x1024x512, .f32⟩
  | 10 => ⟨S_, .f32⟩
  | 11 => ⟨S8x1024, .f32⟩
  | 12 => ⟨S8x1024x1, .f32⟩
  | 13 => ⟨S512x2048, .f32⟩
  | 14 => ⟨S8x1024x2048, .f32⟩
  | 15 => ⟨S_, .f32⟩
  | 16 => ⟨S8x1024x2048, .f32⟩
  | 17 => ⟨S8x1024x2048, .f32⟩
  | 18 => ⟨S8x1024x2048, .f32⟩
  | 19 => ⟨S8x1024x2048, .f32⟩
  | 20 => ⟨S2048x512, .f32⟩
  | 21 => ⟨S_, .f32⟩
  | 22 => ⟨S2048, .f32⟩
  | 23 => ⟨S1x1x2048, .f32⟩
  | 24 => ⟨S8x1024x2048, .f32⟩
  | 25 => ⟨S8x1024x2048, .f32⟩
  | 26 => ⟨S8x1024x2048, .i32⟩
  | 27 => ⟨S_, .f32⟩
  | 28 => ⟨S_, .i32⟩
  | 29 => ⟨S8x1024, .f32⟩
  | 30 => ⟨S8x1024, .i32⟩
  | 31 => ⟨S_, .i32⟩
  | 32 => ⟨S8x1024, .i32⟩
  | 33 => ⟨S8x1024, .i1⟩
  | 34 => ⟨S_, .i32⟩
  | 35 => ⟨S8x1024, .i32⟩
  | 36 => ⟨S8x1024, .i32⟩
  | 37 => ⟨S8x1024, .i32⟩
  | 38 => ⟨S8x1024x1, .i32⟩
  | 39 => ⟨S1, .i32⟩
  | 40 => ⟨S_, .i32⟩
  | 41 => ⟨S8x1024x1, .i32⟩
  | 42 => ⟨S8x1024x1, .i1⟩
  | 43 => ⟨S1x1x1, .i32⟩
  | 44 => ⟨S8x1024x1, .i32⟩
  | 45 => ⟨S8x1024x1, .i1⟩
  | 46 => ⟨S8x1024x1, .i1⟩
  | 47 => ⟨S_, .i1⟩
  | 48 => ⟨S8x1024, .i1⟩
  | 49 => ⟨S8x1024x512, .f32⟩
  | 50 => ⟨S8x1024x512, .i1⟩
  | 51 => ⟨S_, .f32⟩
  | 52 => ⟨S8x1024x512, .f32⟩
  | 53 => ⟨S8x1024x512, .f32⟩
  | 54 => ⟨S8x1024x512, .f32⟩
  | 55 => ⟨S8x1024x512, .f32⟩
  | 56 => ⟨S8x1024x512, .f32⟩
  | 57 => ⟨S_, .f32⟩
  | 58 => ⟨S_, .f32⟩
  | 59 => ⟨S_, .f32⟩
  | 60 => ⟨S_, .f32⟩
  | 61 => ⟨S8x1024x512, .f32⟩
  | 62 => ⟨S8x1024x512, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S8x1024x512, .f32⟩
  | 72 => ⟨S1x2048x512, .f32⟩
  | 73 => ⟨S2048x512, .f32⟩
  | 74 => ⟨S8x1024x512, .f32⟩
  | 75 => ⟨S_, .f32⟩
  | 76 => ⟨S8x1024, .f32⟩
  | 77 => ⟨S8x1024x1, .f32⟩
  | 78 => ⟨S512x2048, .f32⟩
  | 79 => ⟨S8x1024x2048, .f32⟩
  | 80 => ⟨S_, .f32⟩
  | 81 => ⟨S8x1024x2048, .f32⟩
  | 82 => ⟨S8x1024x2048, .f32⟩
  | 83 => ⟨S8x1024x2048, .f32⟩
  | 84 => ⟨S8x1024x2048, .f32⟩
  | 85 => ⟨S2048x512, .f32⟩
  | 86 => ⟨S_, .f32⟩
  | 87 => ⟨S2048, .f32⟩
  | 88 => ⟨S1x1x2048, .f32⟩
  | 89 => ⟨S8x1024x2048, .f32⟩
  | 90 => ⟨S8x1024x2048, .f32⟩
  | 91 => ⟨S8x1024x2048, .i32⟩
  | 92 => ⟨S_, .f32⟩
  | 93 => ⟨S_, .i32⟩
  | 94 => ⟨S8x1024, .f32⟩
  | 95 => ⟨S8x1024, .i32⟩
  | 96 => ⟨S_, .i32⟩
  | 97 => ⟨S8x1024, .i32⟩
  | 98 => ⟨S8x1024, .i1⟩
  | 99 => ⟨S_, .i32⟩
  | 100 => ⟨S8x1024, .i32⟩
  | 101 => ⟨S8x1024, .i32⟩
  | 102 => ⟨S8x1024, .i32⟩
  | 103 => ⟨S8x1024x1, .i32⟩
  | 104 => ⟨S1, .i32⟩
  | 105 => ⟨S_, .i32⟩
  | 106 => ⟨S8x1024x1, .i32⟩
  | 107 => ⟨S8x1024x1, .i1⟩
  | 108 => ⟨S1x1x1, .i32⟩
  | 109 => ⟨S8x1024x1, .i32⟩
  | 110 => ⟨S8x1024x1, .i1⟩
  | 111 => ⟨S8x1024x1, .i1⟩
  | 112 => ⟨S_, .i1⟩
  | 113 => ⟨S8x1024, .i1⟩
  | 114 => ⟨S8x1024x512, .f32⟩
  | 115 => ⟨S8x1024x512, .i1⟩
  | 116 => ⟨S_, .f32⟩
  | 117 => ⟨S8x1024x512, .f32⟩
  | 118 => ⟨S8x1024x512, .f32⟩
  | 119 => ⟨S8x1024x512, .f32⟩
  | 120 => ⟨S8x1024x512, .f32⟩
  | 121 => ⟨S8x1024x512, .f32⟩
  | 122 => ⟨S_, .f32⟩
  | 123 => ⟨S_, .f32⟩
  | 124 => ⟨S_, .f32⟩
  | 125 => ⟨S_, .f32⟩
  | 126 => ⟨S8x1024x512, .f32⟩
  | 127 => ⟨S8x1024x512, .f32⟩
  | _ => ⟨S8x1024x512, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S8x1024x512, .f32⟩
  | 9 => ⟨S1x2048x512, .f32⟩
  | 10 => ⟨S2048x512, .f32⟩
  | 11 => ⟨S8x1024x512, .f32⟩
  | 12 => ⟨S_, .f32⟩
  | 13 => ⟨S8x1024, .f32⟩
  | 14 => ⟨S8x1024x1, .f32⟩
  | 15 => ⟨S512x2048, .f32⟩
  | 16 => ⟨S8x1024x2048, .f32⟩
  | 17 => ⟨S_, .f32⟩
  | 18 => ⟨S8x1024x2048, .f32⟩
  | 19 => ⟨S8x1024x2048, .f32⟩
  | 20 => ⟨S8x1024x2048, .f32⟩
  | 21 => ⟨S8x1024x2048, .f32⟩
  | 22 => ⟨S2048x512, .f32⟩
  | 23 => ⟨S_, .f32⟩
  | 24 => ⟨S2048, .f32⟩
  | 25 => ⟨S1x1x2048, .f32⟩
  | 26 => ⟨S8x1024x2048, .f32⟩
  | 27 => ⟨S8x1024x2048, .f32⟩
  | 28 => ⟨S8x1024x2048, .i32⟩
  | 29 => ⟨S_, .f32⟩
  | 30 => ⟨S_, .i32⟩
  | 31 => ⟨S8x1024, .f32⟩
  | 32 => ⟨S8x1024, .i32⟩
  | 33 => ⟨S_, .i32⟩
  | 34 => ⟨S8x1024, .i32⟩
  | 35 => ⟨S8x1024, .i1⟩
  | 36 => ⟨S_, .i32⟩
  | 37 => ⟨S8x1024, .i32⟩
  | 38 => ⟨S8x1024, .i32⟩
  | 39 => ⟨S8x1024, .i32⟩
  | 40 => ⟨S8x1024x1, .i32⟩
  | 41 => ⟨S1, .i32⟩
  | 42 => ⟨S_, .i32⟩
  | 43 => ⟨S8x1024x1, .i32⟩
  | 44 => ⟨S8x1024x1, .i1⟩
  | 45 => ⟨S1x1x1, .i32⟩
  | 46 => ⟨S8x1024x1, .i32⟩
  | 47 => ⟨S8x1024x1, .i1⟩
  | 48 => ⟨S8x1024x1, .i1⟩
  | 49 => ⟨S_, .i1⟩
  | 50 => ⟨S8x1024, .i1⟩
  | 51 => ⟨S8x1024x512, .f32⟩
  | 52 => ⟨S8x1024x512, .i1⟩
  | 53 => ⟨S_, .f32⟩
  | 54 => ⟨S8x1024x512, .f32⟩
  | 55 => ⟨S8x1024x512, .f32⟩
  | 56 => ⟨S8x1024x512, .f32⟩
  | 57 => ⟨S8x1024x512, .f32⟩
  | 58 => ⟨S8x1024x512, .f32⟩
  | 59 => ⟨S_, .f32⟩
  | 60 => ⟨S_, .f32⟩
  | 61 => ⟨S_, .f32⟩
  | 62 => ⟨S_, .f32⟩
  | 63 => ⟨S8x1024x512, .f32⟩
  | 64 => ⟨S8x1024x512, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S8x1024x512, .f32⟩
  | 74 => ⟨S1x2048x512, .f32⟩
  | 75 => ⟨S2048x512, .f32⟩
  | 76 => ⟨S8x1024x512, .f32⟩
  | 77 => ⟨S_, .f32⟩
  | 78 => ⟨S8x1024, .f32⟩
  | 79 => ⟨S8x1024x1, .f32⟩
  | 80 => ⟨S512x2048, .f32⟩
  | 81 => ⟨S8x1024x2048, .f32⟩
  | 82 => ⟨S_, .f32⟩
  | 83 => ⟨S8x1024x2048, .f32⟩
  | 84 => ⟨S8x1024x2048, .f32⟩
  | 85 => ⟨S8x1024x2048, .f32⟩
  | 86 => ⟨S8x1024x2048, .f32⟩
  | 87 => ⟨S2048x512, .f32⟩
  | 88 => ⟨S_, .f32⟩
  | 89 => ⟨S2048, .f32⟩
  | 90 => ⟨S1x1x2048, .f32⟩
  | 91 => ⟨S8x1024x2048, .f32⟩
  | 92 => ⟨S8x1024x2048, .f32⟩
  | 93 => ⟨S8x1024x2048, .i32⟩
  | 94 => ⟨S_, .f32⟩
  | 95 => ⟨S_, .i32⟩
  | 96 => ⟨S8x1024, .f32⟩
  | 97 => ⟨S8x1024, .i32⟩
  | 98 => ⟨S_, .i32⟩
  | 99 => ⟨S8x1024, .i32⟩
  | 100 => ⟨S8x1024, .i1⟩
  | 101 => ⟨S_, .i32⟩
  | 102 => ⟨S8x1024, .i32⟩
  | 103 => ⟨S8x1024, .i32⟩
  | 104 => ⟨S8x1024, .i32⟩
  | 105 => ⟨S8x1024x1, .i32⟩
  | 106 => ⟨S1, .i32⟩
  | 107 => ⟨S_, .i32⟩
  | 108 => ⟨S8x1024x1, .i32⟩
  | 109 => ⟨S8x1024x1, .i1⟩
  | 110 => ⟨S1x1x1, .i32⟩
  | 111 => ⟨S8x1024x1, .i32⟩
  | 112 => ⟨S8x1024x1, .i1⟩
  | 113 => ⟨S8x1024x1, .i1⟩
  | 114 => ⟨S_, .i1⟩
  | 115 => ⟨S8x1024, .i1⟩
  | 116 => ⟨S8x1024x512, .f32⟩
  | 117 => ⟨S8x1024x512, .i1⟩
  | 118 => ⟨S_, .f32⟩
  | 119 => ⟨S8x1024x512, .f32⟩
  | 120 => ⟨S8x1024x512, .f32⟩
  | 121 => ⟨S8x1024x512, .f32⟩
  | 122 => ⟨S8x1024x512, .f32⟩
  | 123 => ⟨S8x1024x512, .f32⟩
  | 124 => ⟨S_, .f32⟩
  | 125 => ⟨S_, .f32⟩
  | 126 => ⟨S_, .f32⟩
  | 127 => ⟨S_, .f32⟩
  | _ => ⟨S8x1024x512, .f32⟩

abbrev hbmTy0_3 (i : Nat) : BufTy := match i % 128 with
  | 0 => ⟨S8x1024x512, .f32⟩
  | 1 => ⟨S8x1024x512, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S8x1024x512, .f32⟩
  | 11 => ⟨S1x2048x512, .f32⟩
  | 12 => ⟨S2048x512, .f32⟩
  | 13 => ⟨S8x1024x512, .f32⟩
  | 14 => ⟨S_, .f32⟩
  | 15 => ⟨S8x1024, .f32⟩
  | 16 => ⟨S8x1024x1, .f32⟩
  | 17 => ⟨S512x2048, .f32⟩
  | 18 => ⟨S8x1024x2048, .f32⟩
  | 19 => ⟨S_, .f32⟩
  | 20 => ⟨S8x1024x2048, .f32⟩
  | 21 => ⟨S8x1024x2048, .f32⟩
  | 22 => ⟨S8x1024x2048, .f32⟩
  | 23 => ⟨S8x1024x2048, .f32⟩
  | 24 => ⟨S2048x512, .f32⟩
  | 25 => ⟨S_, .f32⟩
  | 26 => ⟨S2048, .f32⟩
  | 27 => ⟨S1x1x2048, .f32⟩
  | 28 => ⟨S8x1024x2048, .f32⟩
  | 29 => ⟨S8x1024x2048, .f32⟩
  | 30 => ⟨S8x1024x2048, .i32⟩
  | 31 => ⟨S_, .f32⟩
  | 32 => ⟨S_, .i32⟩
  | 33 => ⟨S8x1024, .f32⟩
  | 34 => ⟨S8x1024, .i32⟩
  | 35 => ⟨S_, .i32⟩
  | 36 => ⟨S8x1024, .i32⟩
  | 37 => ⟨S8x1024, .i1⟩
  | 38 => ⟨S_, .i32⟩
  | 39 => ⟨S8x1024, .i32⟩
  | 40 => ⟨S8x1024, .i32⟩
  | 41 => ⟨S8x1024, .i32⟩
  | 42 => ⟨S8x1024x1, .i32⟩
  | 43 => ⟨S1, .i32⟩
  | 44 => ⟨S_, .i32⟩
  | 45 => ⟨S8x1024x1, .i32⟩
  | 46 => ⟨S8x1024x1, .i1⟩
  | 47 => ⟨S1x1x1, .i32⟩
  | 48 => ⟨S8x1024x1, .i32⟩
  | 49 => ⟨S8x1024x1, .i1⟩
  | 50 => ⟨S8x1024x1, .i1⟩
  | 51 => ⟨S_, .i1⟩
  | 52 => ⟨S8x1024, .i1⟩
  | 53 => ⟨S8x1024x512, .f32⟩
  | 54 => ⟨S8x1024x512, .i1⟩
  | 55 => ⟨S_, .f32⟩
  | 56 => ⟨S8x1024x512, .f32⟩
  | 57 => ⟨S8x1024x512, .f32⟩
  | 58 => ⟨S8x1024x512, .f32⟩
  | 59 => ⟨S8x1024x512, .f32⟩
  | 60 => ⟨S8x1024x512, .f32⟩
  | 61 => ⟨S_, .f32⟩
  | 62 => ⟨S_, .f32⟩
  | 63 => ⟨S_, .f32⟩
  | 64 => ⟨S_, .f32⟩
  | 65 => ⟨S8x1024x512, .f32⟩
  | 66 => ⟨S8x1024x512, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S8x1024x512, .f32⟩
  | 76 => ⟨S1x2048x512, .f32⟩
  | 77 => ⟨S2048x512, .f32⟩
  | 78 => ⟨S8x1024x512, .f32⟩
  | 79 => ⟨S_, .f32⟩
  | 80 => ⟨S8x1024, .f32⟩
  | 81 => ⟨S8x1024x1, .f32⟩
  | 82 => ⟨S512x2048, .f32⟩
  | 83 => ⟨S8x1024x2048, .f32⟩
  | 84 => ⟨S_, .f32⟩
  | 85 => ⟨S8x1024x2048, .f32⟩
  | 86 => ⟨S8x1024x2048, .f32⟩
  | 87 => ⟨S8x1024x2048, .f32⟩
  | 88 => ⟨S8x1024x2048, .f32⟩
  | 89 => ⟨S2048x512, .f32⟩
  | 90 => ⟨S_, .f32⟩
  | 91 => ⟨S2048, .f32⟩
  | 92 => ⟨S1x1x2048, .f32⟩
  | 93 => ⟨S8x1024x2048, .f32⟩
  | 94 => ⟨S8x1024x2048, .f32⟩
  | 95 => ⟨S8x1024x2048, .i32⟩
  | 96 => ⟨S_, .f32⟩
  | 97 => ⟨S_, .i32⟩
  | 98 => ⟨S8x1024, .f32⟩
  | 99 => ⟨S8x1024, .i32⟩
  | 100 => ⟨S_, .i32⟩
  | 101 => ⟨S8x1024, .i32⟩
  | 102 => ⟨S8x1024, .i1⟩
  | 103 => ⟨S_, .i32⟩
  | 104 => ⟨S8x1024, .i32⟩
  | 105 => ⟨S8x1024, .i32⟩
  | 106 => ⟨S8x1024, .i32⟩
  | 107 => ⟨S8x1024x1, .i32⟩
  | 108 => ⟨S1, .i32⟩
  | 109 => ⟨S_, .i32⟩
  | 110 => ⟨S8x1024x1, .i32⟩
  | 111 => ⟨S8x1024x1, .i1⟩
  | 112 => ⟨S1x1x1, .i32⟩
  | 113 => ⟨S8x1024x1, .i32⟩
  | 114 => ⟨S8x1024x1, .i1⟩
  | 115 => ⟨S8x1024x1, .i1⟩
  | 116 => ⟨S_, .i1⟩
  | 117 => ⟨S8x1024, .i1⟩
  | 118 => ⟨S8x1024x512, .f32⟩
  | 119 => ⟨S8x1024x512, .i1⟩
  | 120 => ⟨S_, .f32⟩
  | 121 => ⟨S8x1024x512, .f32⟩
  | 122 => ⟨S8x1024x512, .f32⟩
  | 123 => ⟨S8x1024x512, .f32⟩
  | 124 => ⟨S8x1024x512, .f32⟩
  | 125 => ⟨S8x1024x512, .f32⟩
  | 126 => ⟨S_, .f32⟩
  | 127 => ⟨S_, .f32⟩
  | _ => ⟨S8x1024x512, .f32⟩

abbrev hbmTy0_4 (i : Nat) : BufTy := match i % 128 with
  | 0 => ⟨S_, .f32⟩
  | 1 => ⟨S_, .f32⟩
  | 2 => ⟨S8x1024x512, .f32⟩
  | 3 => ⟨S8x1024x512, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S8x1024x512, .f32⟩
  | 13 => ⟨S8x1024x512, .f32⟩
  | 14 => ⟨S8x1024x512, .f32⟩
  | 15 => ⟨S8x1024x1, .i32⟩
  | 16 => ⟨S8x1024x1, .i32⟩
  | 17 => ⟨S8x1024x1, .i32⟩
  | 18 => ⟨S8x1024x1, .i32⟩
  | 19 => ⟨S8x1024x1, .i32⟩
  | 20 => ⟨S8x1024x1, .i32⟩
  | 21 => ⟨S8x1024x1, .i32⟩
  | 22 => ⟨S8x1024x1, .i32⟩
  | 23 => ⟨S8x1024x8, .i32⟩
  | 24 => ⟨S_, .f32⟩
  | 25 => ⟨S_, .f32⟩
  | _ => ⟨S8x1024x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x1024x512, .f32⟩

abbrev bufTy : (tb : Table) → Fin (tcTables nBuf tb) → BufTy
  | .hbm, ⟨i, _⟩ => hbmTy i
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_cst_7 : Ref sig .tc := ⟨.hbm, 64, rfl⟩
abbrev main_v28 : Ref sig .tc := ⟨.hbm, 65, rfl⟩
abbrev main_cst_8 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_9 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_11 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call2_v0 : Ref sig .tc := ⟨.hbm, 89, rfl⟩
abbrev main_call2_cst : Ref sig .tc := ⟨.hbm, 90, rfl⟩
abbrev main_call2_c : Ref sig .tc := ⟨.hbm, 91, rfl⟩
abbrev main_call2_v1_0 : Ref sig .tc := ⟨.hbm, 92, rfl⟩
abbrev main_v48 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_cst_12 : Ref sig .tc := ⟨.hbm, 120, rfl⟩
abbrev main_v53 : Ref sig .tc := ⟨.hbm, 121, rfl⟩
abbrev main_cst_13 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_cst_14 : Ref sig .tc := ⟨.hbm, 126, rfl⟩
abbrev main_v57 : Ref sig .tc := ⟨.hbm, 127, rfl⟩
abbrev main_cst_15 : Ref sig .tc := ⟨.hbm, 128, rfl⟩
abbrev main_v58 : Ref sig .tc := ⟨.hbm, 129, rfl⟩
abbrev main_cst_16 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_17 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_18 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_cst_19 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_call4_v0 : Ref sig .tc := ⟨.hbm, 154, rfl⟩
abbrev main_call4_cst : Ref sig .tc := ⟨.hbm, 155, rfl⟩
abbrev main_call4_c : Ref sig .tc := ⟨.hbm, 156, rfl⟩
abbrev main_call4_v1_0 : Ref sig .tc := ⟨.hbm, 157, rfl⟩
abbrev main_v79 : Ref sig .tc := ⟨.hbm, 158, rfl⟩
abbrev main_call5_c : Ref sig .tc := ⟨.hbm, 159, rfl⟩
abbrev main_call5_v0 : Ref sig .tc := ⟨.hbm, 160, rfl⟩
abbrev main_call5_v1 : Ref sig .tc := ⟨.hbm, 161, rfl⟩
abbrev main_call5_c_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_c_1 : Ref sig .tc := ⟨.hbm, 167, rfl⟩
abbrev main_call5_c_2 : Ref sig .tc := ⟨.hbm, 168, rfl⟩
abbrev main_call5_v6 : Ref sig .tc := ⟨.hbm, 169, rfl⟩
abbrev main_call5_v7 : Ref sig .tc := ⟨.hbm, 170, rfl⟩
abbrev main_call5_v8 : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_c_3 : Ref sig .tc := ⟨.hbm, 175, rfl⟩
abbrev main_call5_v12 : Ref sig .tc := ⟨.hbm, 176, rfl⟩
abbrev main_call5_v13 : Ref sig .tc := ⟨.hbm, 177, rfl⟩
abbrev main_call5_v14 : Ref sig .tc := ⟨.hbm, 178, rfl⟩
abbrev main_call5_cst : Ref sig .tc := ⟨.hbm, 179, rfl⟩
abbrev main_call5_v15 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_cst_20 : Ref sig .tc := ⟨.hbm, 185, rfl⟩
abbrev main_v84 : Ref sig .tc := ⟨.hbm, 186, rfl⟩
abbrev main_cst_21 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_cst_22 : Ref sig .tc := ⟨.hbm, 191, rfl⟩
abbrev main_v88 : Ref sig .tc := ⟨.hbm, 192, rfl⟩
abbrev main_cst_23 : Ref sig .tc := ⟨.hbm, 193, rfl⟩
abbrev main_v89 : Ref sig .tc := ⟨.hbm, 194, rfl⟩
abbrev main_cst_24 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_cst_25 : Ref sig .tc := ⟨.hbm, 203, rfl⟩
abbrev main_v97 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_cst_26 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_cst_27 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_call6_v0 : Ref sig .tc := ⟨.hbm, 219, rfl⟩
abbrev main_call6_cst : Ref sig .tc := ⟨.hbm, 220, rfl⟩
abbrev main_call6_c : Ref sig .tc := ⟨.hbm, 221, rfl⟩
abbrev main_call6_v1_0 : Ref sig .tc := ⟨.hbm, 222, rfl⟩
abbrev main_v110 : Ref sig .tc := ⟨.hbm, 223, rfl⟩
abbrev main_call7_c : Ref sig .tc := ⟨.hbm, 224, rfl⟩
abbrev main_call7_v0 : Ref sig .tc := ⟨.hbm, 225, rfl⟩
abbrev main_call7_v1 : Ref sig .tc := ⟨.hbm, 226, rfl⟩
abbrev main_call7_c_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_c_1 : Ref sig .tc := ⟨.hbm, 232, rfl⟩
abbrev main_call7_c_2 : Ref sig .tc := ⟨.hbm, 233, rfl⟩
abbrev main_call7_v6 : Ref sig .tc := ⟨.hbm, 234, rfl⟩
abbrev main_call7_v7 : Ref sig .tc := ⟨.hbm, 235, rfl⟩
abbrev main_call7_v8 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_c_3 : Ref sig .tc := ⟨.hbm, 240, rfl⟩
abbrev main_call7_v12 : Ref sig .tc := ⟨.hbm, 241, rfl⟩
abbrev main_call7_v13 : Ref sig .tc := ⟨.hbm, 242, rfl⟩
abbrev main_call7_v14 : Ref sig .tc := ⟨.hbm, 243, rfl⟩
abbrev main_call7_cst : Ref sig .tc := ⟨.hbm, 244, rfl⟩
abbrev main_call7_v15 : Ref sig .tc := ⟨.hbm, 245, rfl⟩
abbrev main_v111 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_cst_28 : Ref sig .tc := ⟨.hbm, 250, rfl⟩
abbrev main_v115 : Ref sig .tc := ⟨.hbm, 251, rfl⟩
abbrev main_cst_29 : Ref sig .tc := ⟨.hbm, 252, rfl⟩
abbrev main_v116 : Ref sig .tc := ⟨.hbm, 253, rfl⟩
abbrev main_v117 : Ref sig .tc := ⟨.hbm, 254, rfl⟩
abbrev main_v118 : Ref sig .tc := ⟨.hbm, 255, rfl⟩
abbrev main_cst_30 : Ref sig .tc := ⟨.hbm, 256, rfl⟩
abbrev main_v119 : Ref sig .tc := ⟨.hbm, 257, rfl⟩
abbrev main_cst_31 : Ref sig .tc := ⟨.hbm, 258, rfl⟩
abbrev main_v120 : Ref sig .tc := ⟨.hbm, 259, rfl⟩
abbrev main_cst_32 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_v127 : Ref sig .tc := ⟨.hbm, 267, rfl⟩
abbrev main_cst_33 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_cst_34 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_v136 : Ref sig .tc := ⟨.hbm, 278, rfl⟩
abbrev main_cst_35 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_call8_v0 : Ref sig .tc := ⟨.hbm, 284, rfl⟩
abbrev main_call8_cst : Ref sig .tc := ⟨.hbm, 285, rfl⟩
abbrev main_call8_c : Ref sig .tc := ⟨.hbm, 286, rfl⟩
abbrev main_call8_v1_0 : Ref sig .tc := ⟨.hbm, 287, rfl⟩
abbrev main_v141 : Ref sig .tc := ⟨.hbm, 288, rfl⟩
abbrev main_call9_c : Ref sig .tc := ⟨.hbm, 289, rfl⟩
abbrev main_call9_v0 : Ref sig .tc := ⟨.hbm, 290, rfl⟩
abbrev main_call9_v1 : Ref sig .tc := ⟨.hbm, 291, rfl⟩
abbrev main_call9_c_0 : Ref sig .tc := ⟨.hbm, 292, rfl⟩
abbrev main_call9_v2 : Ref sig .tc := ⟨.hbm, 293, rfl⟩
abbrev main_call9_v3 : Ref sig .tc := ⟨.hbm, 294, rfl⟩
abbrev main_call9_v4 : Ref sig .tc := ⟨.hbm, 295, rfl⟩
abbrev main_call9_v5 : Ref sig .tc := ⟨.hbm, 296, rfl⟩
abbrev main_call9_c_1 : Ref sig .tc := ⟨.hbm, 297, rfl⟩
abbrev main_call9_c_2 : Ref sig .tc := ⟨.hbm, 298, rfl⟩
abbrev main_call9_v6 : Ref sig .tc := ⟨.hbm, 299, rfl⟩
abbrev main_call9_v7 : Ref sig .tc := ⟨.hbm, 300, rfl⟩
abbrev main_call9_v8 : Ref sig .tc := ⟨.hbm, 301, rfl⟩
abbrev main_call9_v9 : Ref sig .tc := ⟨.hbm, 302, rfl⟩
abbrev main_call9_v10 : Ref sig .tc := ⟨.hbm, 303, rfl⟩
abbrev main_call9_v11 : Ref sig .tc := ⟨.hbm, 304, rfl⟩
abbrev main_call9_c_3 : Ref sig .tc := ⟨.hbm, 305, rfl⟩
abbrev main_call9_v12 : Ref sig .tc := ⟨.hbm, 306, rfl⟩
abbrev main_call9_v13 : Ref sig .tc := ⟨.hbm, 307, rfl⟩
abbrev main_call9_v14 : Ref sig .tc := ⟨.hbm, 308, rfl⟩
abbrev main_call9_cst : Ref sig .tc := ⟨.hbm, 309, rfl⟩
abbrev main_call9_v15 : Ref sig .tc := ⟨.hbm, 310, rfl⟩
abbrev main_v142 : Ref sig .tc := ⟨.hbm, 311, rfl⟩
abbrev main_v143 : Ref sig .tc := ⟨.hbm, 312, rfl⟩
abbrev main_v144 : Ref sig .tc := ⟨.hbm, 313, rfl⟩
abbrev main_v145 : Ref sig .tc := ⟨.hbm, 314, rfl⟩
abbrev main_cst_36 : Ref sig .tc := ⟨.hbm, 315, rfl⟩
abbrev main_v146 : Ref sig .tc := ⟨.hbm, 316, rfl⟩
abbrev main_cst_37 : Ref sig .tc := ⟨.hbm, 317, rfl⟩
abbrev main_v147 : Ref sig .tc := ⟨.hbm, 318, rfl⟩
abbrev main_v148 : Ref sig .tc := ⟨.hbm, 319, rfl⟩
abbrev main_v149 : Ref sig .tc := ⟨.hbm, 320, rfl⟩
abbrev main_cst_38 : Ref sig .tc := ⟨.hbm, 321, rfl⟩
abbrev main_v150 : Ref sig .tc := ⟨.hbm, 322, rfl⟩
abbrev main_cst_39 : Ref sig .tc := ⟨.hbm, 323, rfl⟩
abbrev main_v151 : Ref sig .tc := ⟨.hbm, 324, rfl⟩
abbrev main_cst_40 : Ref sig .tc := ⟨.hbm, 325, rfl⟩
abbrev main_v152 : Ref sig .tc := ⟨.hbm, 326, rfl⟩
abbrev main_v153 : Ref sig .tc := ⟨.hbm, 327, rfl⟩
abbrev main_v154 : Ref sig .tc := ⟨.hbm, 328, rfl⟩
abbrev main_v155 : Ref sig .tc := ⟨.hbm, 329, rfl⟩
abbrev main_v156 : Ref sig .tc := ⟨.hbm, 330, rfl⟩
abbrev main_v157 : Ref sig .tc := ⟨.hbm, 331, rfl⟩
abbrev main_v158 : Ref sig .tc := ⟨.hbm, 332, rfl⟩
abbrev main_cst_41 : Ref sig .tc := ⟨.hbm, 333, rfl⟩
abbrev main_v159 : Ref sig .tc := ⟨.hbm, 334, rfl⟩
abbrev main_v160 : Ref sig .tc := ⟨.hbm, 335, rfl⟩
abbrev main_v161 : Ref sig .tc := ⟨.hbm, 336, rfl⟩
abbrev main_v162 : Ref sig .tc := ⟨.hbm, 337, rfl⟩
abbrev main_cst_42 : Ref sig .tc := ⟨.hbm, 338, rfl⟩
abbrev main_v163 : Ref sig .tc := ⟨.hbm, 339, rfl⟩
abbrev main_v164 : Ref sig .tc := ⟨.hbm, 340, rfl⟩
abbrev main_v165 : Ref sig .tc := ⟨.hbm, 341, rfl⟩
abbrev main_v166 : Ref sig .tc := ⟨.hbm, 342, rfl⟩
abbrev main_v167 : Ref sig .tc := ⟨.hbm, 343, rfl⟩
abbrev main_cst_43 : Ref sig .tc := ⟨.hbm, 344, rfl⟩
abbrev main_v168 : Ref sig .tc := ⟨.hbm, 345, rfl⟩
abbrev main_v169 : Ref sig .tc := ⟨.hbm, 346, rfl⟩
abbrev main_v170 : Ref sig .tc := ⟨.hbm, 347, rfl⟩
abbrev main_v171 : Ref sig .tc := ⟨.hbm, 348, rfl⟩
abbrev main_call10_v0 : Ref sig .tc := ⟨.hbm, 349, rfl⟩
abbrev main_call10_cst : Ref sig .tc := ⟨.hbm, 350, rfl⟩
abbrev main_call10_c : Ref sig .tc := ⟨.hbm, 351, rfl⟩
abbrev main_call10_v1_0 : Ref sig .tc := ⟨.hbm, 352, rfl⟩
abbrev main_v172 : Ref sig .tc := ⟨.hbm, 353, rfl⟩
abbrev main_call11_c : Ref sig .tc := ⟨.hbm, 354, rfl⟩
abbrev main_call11_v0 : Ref sig .tc := ⟨.hbm, 355, rfl⟩
abbrev main_call11_v1 : Ref sig .tc := ⟨.hbm, 356, rfl⟩
abbrev main_call11_c_0 : Ref sig .tc := ⟨.hbm, 357, rfl⟩
abbrev main_call11_v2 : Ref sig .tc := ⟨.hbm, 358, rfl⟩
abbrev main_call11_v3 : Ref sig .tc := ⟨.hbm, 359, rfl⟩
abbrev main_call11_v4 : Ref sig .tc := ⟨.hbm, 360, rfl⟩
abbrev main_call11_v5 : Ref sig .tc := ⟨.hbm, 361, rfl⟩
abbrev main_call11_c_1 : Ref sig .tc := ⟨.hbm, 362, rfl⟩
abbrev main_call11_c_2 : Ref sig .tc := ⟨.hbm, 363, rfl⟩
abbrev main_call11_v6 : Ref sig .tc := ⟨.hbm, 364, rfl⟩
abbrev main_call11_v7 : Ref sig .tc := ⟨.hbm, 365, rfl⟩
abbrev main_call11_v8 : Ref sig .tc := ⟨.hbm, 366, rfl⟩
abbrev main_call11_v9 : Ref sig .tc := ⟨.hbm, 367, rfl⟩
abbrev main_call11_v10 : Ref sig .tc := ⟨.hbm, 368, rfl⟩
abbrev main_call11_v11 : Ref sig .tc := ⟨.hbm, 369, rfl⟩
abbrev main_call11_c_3 : Ref sig .tc := ⟨.hbm, 370, rfl⟩
abbrev main_call11_v12 : Ref sig .tc := ⟨.hbm, 371, rfl⟩
abbrev main_call11_v13 : Ref sig .tc := ⟨.hbm, 372, rfl⟩
abbrev main_call11_v14 : Ref sig .tc := ⟨.hbm, 373, rfl⟩
abbrev main_call11_cst : Ref sig .tc := ⟨.hbm, 374, rfl⟩
abbrev main_call11_v15 : Ref sig .tc := ⟨.hbm, 375, rfl⟩
abbrev main_v173 : Ref sig .tc := ⟨.hbm, 376, rfl⟩
abbrev main_v174 : Ref sig .tc := ⟨.hbm, 377, rfl⟩
abbrev main_v175 : Ref sig .tc := ⟨.hbm, 378, rfl⟩
abbrev main_v176 : Ref sig .tc := ⟨.hbm, 379, rfl⟩
abbrev main_cst_44 : Ref sig .tc := ⟨.hbm, 380, rfl⟩
abbrev main_v177 : Ref sig .tc := ⟨.hbm, 381, rfl⟩
abbrev main_cst_45 : Ref sig .tc := ⟨.hbm, 382, rfl⟩
abbrev main_v178 : Ref sig .tc := ⟨.hbm, 383, rfl⟩
abbrev main_v179 : Ref sig .tc := ⟨.hbm, 384, rfl⟩
abbrev main_v180 : Ref sig .tc := ⟨.hbm, 385, rfl⟩
abbrev main_cst_46 : Ref sig .tc := ⟨.hbm, 386, rfl⟩
abbrev main_v181 : Ref sig .tc := ⟨.hbm, 387, rfl⟩
abbrev main_cst_47 : Ref sig .tc := ⟨.hbm, 388, rfl⟩
abbrev main_v182 : Ref sig .tc := ⟨.hbm, 389, rfl⟩
abbrev main_cst_48 : Ref sig .tc := ⟨.hbm, 390, rfl⟩
abbrev main_v183 : Ref sig .tc := ⟨.hbm, 391, rfl⟩
abbrev main_v184 : Ref sig .tc := ⟨.hbm, 392, rfl⟩
abbrev main_v185 : Ref sig .tc := ⟨.hbm, 393, rfl⟩
abbrev main_v186 : Ref sig .tc := ⟨.hbm, 394, rfl⟩
abbrev main_v187 : Ref sig .tc := ⟨.hbm, 395, rfl⟩
abbrev main_v188 : Ref sig .tc := ⟨.hbm, 396, rfl⟩
abbrev main_v189 : Ref sig .tc := ⟨.hbm, 397, rfl⟩
abbrev main_cst_49 : Ref sig .tc := ⟨.hbm, 398, rfl⟩
abbrev main_v190 : Ref sig .tc := ⟨.hbm, 399, rfl⟩
abbrev main_v191 : Ref sig .tc := ⟨.hbm, 400, rfl⟩
abbrev main_v192 : Ref sig .tc := ⟨.hbm, 401, rfl⟩
abbrev main_v193 : Ref sig .tc := ⟨.hbm, 402, rfl⟩
abbrev main_cst_50 : Ref sig .tc := ⟨.hbm, 403, rfl⟩
abbrev main_v194 : Ref sig .tc := ⟨.hbm, 404, rfl⟩
abbrev main_v195 : Ref sig .tc := ⟨.hbm, 405, rfl⟩
abbrev main_v196 : Ref sig .tc := ⟨.hbm, 406, rfl⟩
abbrev main_v197 : Ref sig .tc := ⟨.hbm, 407, rfl⟩
abbrev main_v198 : Ref sig .tc := ⟨.hbm, 408, rfl⟩
abbrev main_cst_51 : Ref sig .tc := ⟨.hbm, 409, rfl⟩
abbrev main_v199 : Ref sig .tc := ⟨.hbm, 410, rfl⟩
abbrev main_v200 : Ref sig .tc := ⟨.hbm, 411, rfl⟩
abbrev main_v201 : Ref sig .tc := ⟨.hbm, 412, rfl⟩
abbrev main_v202 : Ref sig .tc := ⟨.hbm, 413, rfl⟩
abbrev main_call12_v0 : Ref sig .tc := ⟨.hbm, 414, rfl⟩
abbrev main_call12_cst : Ref sig .tc := ⟨.hbm, 415, rfl⟩
abbrev main_call12_c : Ref sig .tc := ⟨.hbm, 416, rfl⟩
abbrev main_call12_v1_0 : Ref sig .tc := ⟨.hbm, 417, rfl⟩
abbrev main_v203 : Ref sig .tc := ⟨.hbm, 418, rfl⟩
abbrev main_call13_c : Ref sig .tc := ⟨.hbm, 419, rfl⟩
abbrev main_call13_v0 : Ref sig .tc := ⟨.hbm, 420, rfl⟩
abbrev main_call13_v1 : Ref sig .tc := ⟨.hbm, 421, rfl⟩
abbrev main_call13_c_0 : Ref sig .tc := ⟨.hbm, 422, rfl⟩
abbrev main_call13_v2 : Ref sig .tc := ⟨.hbm, 423, rfl⟩
abbrev main_call13_v3 : Ref sig .tc := ⟨.hbm, 424, rfl⟩
abbrev main_call13_v4 : Ref sig .tc := ⟨.hbm, 425, rfl⟩
abbrev main_call13_v5 : Ref sig .tc := ⟨.hbm, 426, rfl⟩
abbrev main_call13_c_1 : Ref sig .tc := ⟨.hbm, 427, rfl⟩
abbrev main_call13_c_2 : Ref sig .tc := ⟨.hbm, 428, rfl⟩
abbrev main_call13_v6 : Ref sig .tc := ⟨.hbm, 429, rfl⟩
abbrev main_call13_v7 : Ref sig .tc := ⟨.hbm, 430, rfl⟩
abbrev main_call13_v8 : Ref sig .tc := ⟨.hbm, 431, rfl⟩
abbrev main_call13_v9 : Ref sig .tc := ⟨.hbm, 432, rfl⟩
abbrev main_call13_v10 : Ref sig .tc := ⟨.hbm, 433, rfl⟩
abbrev main_call13_v11 : Ref sig .tc := ⟨.hbm, 434, rfl⟩
abbrev main_call13_c_3 : Ref sig .tc := ⟨.hbm, 435, rfl⟩
abbrev main_call13_v12 : Ref sig .tc := ⟨.hbm, 436, rfl⟩
abbrev main_call13_v13 : Ref sig .tc := ⟨.hbm, 437, rfl⟩
abbrev main_call13_v14 : Ref sig .tc := ⟨.hbm, 438, rfl⟩
abbrev main_call13_cst : Ref sig .tc := ⟨.hbm, 439, rfl⟩
abbrev main_call13_v15 : Ref sig .tc := ⟨.hbm, 440, rfl⟩
abbrev main_v204 : Ref sig .tc := ⟨.hbm, 441, rfl⟩
abbrev main_v205 : Ref sig .tc := ⟨.hbm, 442, rfl⟩
abbrev main_v206 : Ref sig .tc := ⟨.hbm, 443, rfl⟩
abbrev main_v207 : Ref sig .tc := ⟨.hbm, 444, rfl⟩
abbrev main_cst_52 : Ref sig .tc := ⟨.hbm, 445, rfl⟩
abbrev main_v208 : Ref sig .tc := ⟨.hbm, 446, rfl⟩
abbrev main_cst_53 : Ref sig .tc := ⟨.hbm, 447, rfl⟩
abbrev main_v209 : Ref sig .tc := ⟨.hbm, 448, rfl⟩
abbrev main_v210 : Ref sig .tc := ⟨.hbm, 449, rfl⟩
abbrev main_v211 : Ref sig .tc := ⟨.hbm, 450, rfl⟩
abbrev main_cst_54 : Ref sig .tc := ⟨.hbm, 451, rfl⟩
abbrev main_v212 : Ref sig .tc := ⟨.hbm, 452, rfl⟩
abbrev main_cst_55 : Ref sig .tc := ⟨.hbm, 453, rfl⟩
abbrev main_v213 : Ref sig .tc := ⟨.hbm, 454, rfl⟩
abbrev main_cst_56 : Ref sig .tc := ⟨.hbm, 455, rfl⟩
abbrev main_v214 : Ref sig .tc := ⟨.hbm, 456, rfl⟩
abbrev main_v215 : Ref sig .tc := ⟨.hbm, 457, rfl⟩
abbrev main_v216 : Ref sig .tc := ⟨.hbm, 458, rfl⟩
abbrev main_v217 : Ref sig .tc := ⟨.hbm, 459, rfl⟩
abbrev main_v218 : Ref sig .tc := ⟨.hbm, 460, rfl⟩
abbrev main_v219 : Ref sig .tc := ⟨.hbm, 461, rfl⟩
abbrev main_v220 : Ref sig .tc := ⟨.hbm, 462, rfl⟩
abbrev main_cst_57 : Ref sig .tc := ⟨.hbm, 463, rfl⟩
abbrev main_v221 : Ref sig .tc := ⟨.hbm, 464, rfl⟩
abbrev main_v222 : Ref sig .tc := ⟨.hbm, 465, rfl⟩
abbrev main_v223 : Ref sig .tc := ⟨.hbm, 466, rfl⟩
abbrev main_v224 : Ref sig .tc := ⟨.hbm, 467, rfl⟩
abbrev main_cst_58 : Ref sig .tc := ⟨.hbm, 468, rfl⟩
abbrev main_v225 : Ref sig .tc := ⟨.hbm, 469, rfl⟩
abbrev main_v226 : Ref sig .tc := ⟨.hbm, 470, rfl⟩
abbrev main_v227 : Ref sig .tc := ⟨.hbm, 471, rfl⟩
abbrev main_v228 : Ref sig .tc := ⟨.hbm, 472, rfl⟩
abbrev main_v229 : Ref sig .tc := ⟨.hbm, 473, rfl⟩
abbrev main_cst_59 : Ref sig .tc := ⟨.hbm, 474, rfl⟩
abbrev main_v230 : Ref sig .tc := ⟨.hbm, 475, rfl⟩
abbrev main_v231 : Ref sig .tc := ⟨.hbm, 476, rfl⟩
abbrev main_v232 : Ref sig .tc := ⟨.hbm, 477, rfl⟩
abbrev main_v233 : Ref sig .tc := ⟨.hbm, 478, rfl⟩
abbrev main_call14_v0 : Ref sig .tc := ⟨.hbm, 479, rfl⟩
abbrev main_call14_cst : Ref sig .tc := ⟨.hbm, 480, rfl⟩
abbrev main_call14_c : Ref sig .tc := ⟨.hbm, 481, rfl⟩
abbrev main_call14_v1_0 : Ref sig .tc := ⟨.hbm, 482, rfl⟩
abbrev main_v234 : Ref sig .tc := ⟨.hbm, 483, rfl⟩
abbrev main_call15_c : Ref sig .tc := ⟨.hbm, 484, rfl⟩
abbrev main_call15_v0 : Ref sig .tc := ⟨.hbm, 485, rfl⟩
abbrev main_call15_v1 : Ref sig .tc := ⟨.hbm, 486, rfl⟩
abbrev main_call15_c_0 : Ref sig .tc := ⟨.hbm, 487, rfl⟩
abbrev main_call15_v2 : Ref sig .tc := ⟨.hbm, 488, rfl⟩
abbrev main_call15_v3 : Ref sig .tc := ⟨.hbm, 489, rfl⟩
abbrev main_call15_v4 : Ref sig .tc := ⟨.hbm, 490, rfl⟩
abbrev main_call15_v5 : Ref sig .tc := ⟨.hbm, 491, rfl⟩
abbrev main_call15_c_1 : Ref sig .tc := ⟨.hbm, 492, rfl⟩
abbrev main_call15_c_2 : Ref sig .tc := ⟨.hbm, 493, rfl⟩
abbrev main_call15_v6 : Ref sig .tc := ⟨.hbm, 494, rfl⟩
abbrev main_call15_v7 : Ref sig .tc := ⟨.hbm, 495, rfl⟩
abbrev main_call15_v8 : Ref sig .tc := ⟨.hbm, 496, rfl⟩
abbrev main_call15_v9 : Ref sig .tc := ⟨.hbm, 497, rfl⟩
abbrev main_call15_v10 : Ref sig .tc := ⟨.hbm, 498, rfl⟩
abbrev main_call15_v11 : Ref sig .tc := ⟨.hbm, 499, rfl⟩
abbrev main_call15_c_3 : Ref sig .tc := ⟨.hbm, 500, rfl⟩
abbrev main_call15_v12 : Ref sig .tc := ⟨.hbm, 501, rfl⟩
abbrev main_call15_v13 : Ref sig .tc := ⟨.hbm, 502, rfl⟩
abbrev main_call15_v14 : Ref sig .tc := ⟨.hbm, 503, rfl⟩
abbrev main_call15_cst : Ref sig .tc := ⟨.hbm, 504, rfl⟩
abbrev main_call15_v15 : Ref sig .tc := ⟨.hbm, 505, rfl⟩
abbrev main_v235 : Ref sig .tc := ⟨.hbm, 506, rfl⟩
abbrev main_v236 : Ref sig .tc := ⟨.hbm, 507, rfl⟩
abbrev main_v237 : Ref sig .tc := ⟨.hbm, 508, rfl⟩
abbrev main_v238 : Ref sig .tc := ⟨.hbm, 509, rfl⟩
abbrev main_cst_60 : Ref sig .tc := ⟨.hbm, 510, rfl⟩
abbrev main_v239 : Ref sig .tc := ⟨.hbm, 511, rfl⟩
abbrev main_cst_61 : Ref sig .tc := ⟨.hbm, 512, rfl⟩
abbrev main_v240 : Ref sig .tc := ⟨.hbm, 513, rfl⟩
abbrev main_v241 : Ref sig .tc := ⟨.hbm, 514, rfl⟩
abbrev main_v242 : Ref sig .tc := ⟨.hbm, 515, rfl⟩
abbrev main_cst_62 : Ref sig .tc := ⟨.hbm, 516, rfl⟩
abbrev main_v243 : Ref sig .tc := ⟨.hbm, 517, rfl⟩
abbrev main_cst_63 : Ref sig .tc := ⟨.hbm, 518, rfl⟩
abbrev main_v244 : Ref sig .tc := ⟨.hbm, 519, rfl⟩
abbrev main_cst_64 : Ref sig .tc := ⟨.hbm, 520, rfl⟩
abbrev main_v245 : Ref sig .tc := ⟨.hbm, 521, rfl⟩
abbrev main_v246 : Ref sig .tc := ⟨.hbm, 522, rfl⟩
abbrev main_v247 : Ref sig .tc := ⟨.hbm, 523, rfl⟩
abbrev main_v248 : Ref sig .tc := ⟨.hbm, 524, rfl⟩
abbrev main_v249 : Ref sig .tc := ⟨.hbm, 525, rfl⟩
abbrev main_v250 : Ref sig .tc := ⟨.hbm, 526, rfl⟩
abbrev main_v251 : Ref sig .tc := ⟨.hbm, 527, rfl⟩
abbrev main_v252 : Ref sig .tc := ⟨.hbm, 528, rfl⟩
abbrev main_v253 : Ref sig .tc := ⟨.hbm, 529, rfl⟩
abbrev main_v254 : Ref sig .tc := ⟨.hbm, 530, rfl⟩
abbrev main_v255 : Ref sig .tc := ⟨.hbm, 531, rfl⟩
abbrev main_v256 : Ref sig .tc := ⟨.hbm, 532, rfl⟩
abbrev main_v257 : Ref sig .tc := ⟨.hbm, 533, rfl⟩
abbrev main_v258 : Ref sig .tc := ⟨.hbm, 534, rfl⟩
abbrev main_v259 : Ref sig .tc := ⟨.hbm, 535, rfl⟩
abbrev main_cst_65 : Ref sig .tc := ⟨.hbm, 536, rfl⟩
abbrev main_v260 : Ref sig .tc := ⟨.hbm, 537, rfl⟩

abbrev nD : Nat := 1
abbrev τ : Topo := Topo.v7x

variable {F : FTy → Type} [FloatOps F]
-- ==== Proof.KernelFrame.Base.lean ====
/- What the frame of the kernel over machine words is stated with: the host operations around the launch, the blocks of its
   windows, the conditions of the body's branches over the grid points, and the buffers the body is given. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the launch make no new buffers. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_cst, main_cst_0, main_v2, main_v3, main_v4, main_v5, main_v6, main_v7}
/-- The lines after the launch write only these buffers. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 128 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := k0_cond3 i = 1#1
/-- It holds at the points ≡ 7 (mod 8) — by arithmetic of the point. -/
theorem hcond0_2 : ∀ t : Fin cfg0.N, cond0_2 (grid0.coords t) ↔ t.val % 8 = 7 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x512 .f32 := Memref.whole cc0_scratch0
abbrev scM0_1 : Memref sig .tc .vmem S512x512 .f32 := Memref.whole cc0_scratch1
abbrev scM0_2 : Memref sig .tc .vmem S8x2048 .f32 := Memref.whole cc0_scratch2
abbrev scM0_3 : Memref sig .tc .vmem S1x2048 .f32 := Memref.whole cc0_scratch3
abbrev scM0_4 : Memref sig .tc .vmem S8x2048x512 .bf16 := Memref.whole cc0_scratch4
abbrev scM0_5 : Memref sig .tc .smem S1x1 .f32 := Memref.whole cc0_scratch5
/-- The scratch `arg7` the kernel carries between points, as a view: what it holds is stated through it. -/
abbrev VS0_0 : View sig .tc .vmem S512x512 .f32 := scM0_0.view
/-- The scratch `arg8` the kernel carries between points, as a view: what it holds is stated through it. -/
abbrev VS0_1 : View sig .tc .vmem S512x512 .f32 := scM0_1.view
/-- The scratch `arg9` the kernel carries between points, as a view: what it holds is stated through it. -/
abbrev VS0_2 : View sig .tc .vmem S8x2048 .f32 := scM0_2.view
/-- The scratch `arg10` the kernel carries between points, as a view: what it holds is stated through it. -/
abbrev VS0_3 : View sig .tc .vmem S1x2048 .f32 := scM0_3.view
/-- The scratch `arg11` the kernel carries between points, as a view: what it holds is stated through it. -/
abbrev VS0_4 : View sig .tc .vmem S8x2048x512 .bf16 := scM0_4.view
/-- The scratch `arg12` the kernel carries between points, as a view: what it holds is stated through it. -/
abbrev VS0_5 : View sig .tc .smem S1x1 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Whole

end
-- ==== Proof.KernelFrame.First.lean ====
/- The body of the kernel at the first grid point: it runs, and the inputs come back as they were. -/
module

public import proofs.«01_k».proof.Proof.KernelFrame.Base

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4) at anything, handed back at some contents nothing names. -/
noncomputable def kernelRun0_A (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) :
    Σ' (LS0 : List (View.Piece (Elt F) S512x512 .f32)), Σ' (LS1 : List (View.Piece (Elt F) S512x512 .f32)), Σ' (LS2 : List (View.Piece (Elt F) S8x2048 .f32)), Σ' (LS3 : List (View.Piece (Elt F) S1x2048 .f32)), Σ' (LS4 : List (View.Piece (Elt F) S8x2048x512 .bf16)), { LS5 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__rvq_kernel_eq_skeleton]; unfold cc0__rvq_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Whole

end
-- ==== Proof.KernelFrame.Inner.lean ====
/- The body of the kernel at a level that is neither the first nor the last of its tile. -/
module

public import proofs.«01_k».proof.Proof.KernelFrame.First

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- What the body's stores leave in each output's staging memref, as pieces (last first) IN CASE B (`scf.if` 0 not taken, `scf.if` 1 not taken, `scf.if` 2 not taken: points 1, 2, … 126: 96 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4) at anything, handed back at some contents nothing names. -/
noncomputable def kernelRun0_B (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) :
    Σ' (LS0 : List (View.Piece (Elt F) S512x512 .f32)), Σ' (LS1 : List (View.Piece (Elt F) S512x512 .f32)), Σ' (LS2 : List (View.Piece (Elt F) S8x2048 .f32)), Σ' (LS3 : List (View.Piece (Elt F) S1x2048 .f32)), Σ' (LS4 : List (View.Piece (Elt F) S8x2048x512 .bf16)), { LS5 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2 ∗ owns (c : Thread nD τ) arg10 fullShare xs3 ∗ owns (c : Thread nD τ) arg11 fullShare xs4 ∗ (∃ f, arg12.view.loc (c : Thread nD τ) ↦[arg12.view.set]{fullShare} arg12.view.writes (Elt F) f LS5)) -∗ K ⟨⟩))
          ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12) K } := by
  refine ⟨?_, ?_, [], [], [], ?_, fun E K => ?run⟩
  case run =>
    simp only [cc0__rvq_kernel_eq_skeleton]; unfold cc0__rvq_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]; · iexists _; iexact HS0
    isplitl [HS1]; · iexists _; iexact HS1
    isplitl [HS2]
    · iexists _; isplitr; · ipureintro; exact harg9.read_unread _
      iexact HS2
    isplitl [HS3]
    · iexists _; isplitr; · ipureintro; exact harg10.read_unread _
      iexact HS3
    isplitl [HS4]
    · iexists _; isplitr; · ipureintro; exact harg11.read_unread _
      iexact HS4
    iexists _; iexact HS5

end Cert.Kernel.Whole

end
-- ==== Proof.KernelFrame.Last.lean ====
/- The body of the kernel at the last level of a tile. -/
module

public import proofs.«01_k».proof.Proof.KernelFrame.Inner

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- What the body's stores leave in each output's staging memref, as pieces (last first) IN CASE C (`scf.if` 0 not taken, `scf.if` 1 not taken, `scf.if` 2 taken: points 7, 15, … 127: 16 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4) at anything, handed back at some contents nothing names. -/
noncomputable def kernelRun0_C (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) :
    Σ' (LS0 : List (View.Piece (Elt F) S512x512 .f32)), Σ' (LS1 : List (View.Piece (Elt F) S512x512 .f32)), Σ' (LS2 : List (View.Piece (Elt F) S8x2048 .f32)), Σ' (LS3 : List (View.Piece (Elt F) S1x2048 .f32)), Σ' (LS4 : List (View.Piece (Elt F) S8x2048x512 .bf16)), { LS5 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2 ∗ owns (c : Thread nD τ) arg10 fullShare xs3 ∗ owns (c : Thread nD τ) arg11 fullShare xs4 ∗ (∃ f, arg12.view.loc (c : Thread nD τ) ↦[arg12.view.set]{fullShare} arg12.view.writes (Elt F) f LS5)) -∗ K ⟨⟩))
          ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12) K } := by
  refine ⟨?_, ?_, [], [], [], ?_, fun E K => ?run⟩
  case run =>
    simp only [cc0__rvq_kernel_eq_skeleton]; unfold cc0__rvq_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]; · iexists _; iexact HS0
    isplitl [HS1]; · iexists _; iexact HS1
    isplitl [HS2]
    · iexists _; isplitr; · ipureintro; exact harg9.read_unread _
      iexact HS2
    isplitl [HS3]
    · iexists _; isplitr; · ipureintro; exact harg10.read_unread _
      iexact HS3
    isplitl [HS4]
    · iexists _; isplitr; · ipureintro; exact harg11.read_unread _
      iexact HS4
    iexists _; iexact HS5

end Cert.Kernel.Whole

end
-- ==== Proof.KernelFrame.Opening.lean ====
/- The body of the kernel at the first level of a tile other than the first one. -/
module

public import proofs.«01_k».proof.Proof.KernelFrame.Last

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- What the body's stores leave in each output's staging memref, as pieces (last first) IN CASE D (`scf.if` 0 not taken, `scf.if` 1 taken, `scf.if` 2 not taken: points 8, 16, … 120: 15 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4) at anything, handed back at some contents nothing names. -/
noncomputable def kernelRun0_D (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) :
    Σ' (LS0 : List (View.Piece (Elt F) S512x512 .f32)), Σ' (LS1 : List (View.Piece (Elt F) S512x512 .f32)), Σ' (LS2 : List (View.Piece (Elt F) S8x2048 .f32)), Σ' (LS3 : List (View.Piece (Elt F) S1x2048 .f32)), Σ' (LS4 : List (View.Piece (Elt F) S8x2048x512 .bf16)), { LS5 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2 ∗ owns (c : Thread nD τ) arg10 fullShare xs3 ∗ owns (c : Thread nD τ) arg11 fullShare xs4 ∗ (∃ f, arg12.view.loc (c : Thread nD τ) ↦[arg12.view.set]{fullShare} arg12.view.writes (Elt F) f LS5)) -∗ K ⟨⟩))
          ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12) K } := by
  refine ⟨?_, ?_, [], [], [], ?_, fun E K => ?run⟩
  case run =>
    simp only [cc0__rvq_kernel_eq_skeleton]; unfold cc0__rvq_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg9.eq_unread hfs2; obtain rfl := harg10.eq_unread hfs3; obtain rfl := harg11.eq_unread hfs4; obtain rfl := harg12.eq_unread hfs5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]; · iexists _; iexact HS0
    isplitl [HS1]; · iexists _; iexact HS1
    isplitl [HS2]
    · iexists _; isplitr; · ipureintro; exact harg9.read_unread _
      iexact HS2
    isplitl [HS3]
    · iexists _; isplitr; · ipureintro; exact harg10.read_unread _
      iexact HS3
    isplitl [HS4]
    · iexists _; isplitr; · ipureintro; exact harg11.read_unread _
      iexact HS4
    iexists _; iexact HS5

end Cert.Kernel.Whole

end
-- ==== Proof.KernelFrame.Frame.lean ====
/- The frame of the kernel over machine words: what its scratch holds from point to point, the obligation of its body, and
   the whole run, which leaves both arguments as they were and every counter at zero. -/
module

public import proofs.«01_k».proof.Proof.KernelFrame.Opening
public import Idealize.ShloMosaic.Lib.Claim

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg7`, which the kernel carries between points, cover it: one of them a store of the WHOLE buffer (Lib/Ring.lean `sl_whole_mem`). -/
theorem scover0_A_0 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 hc2 x0 x1).1 (by sl_whole_mem) y

/-- What case A leaves in scratch `arg7`: its pieces read back over junk. -/
def sout0_A_0 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) : Vec F S512x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 hc2 x0 x1).1)

/-- Case A's pieces for scratch `arg8`, which the kernel carries between points, cover it: one of them a store of the WHOLE buffer (Lib/Ring.lean `sl_whole_mem`). -/
theorem scover0_A_1 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 hc2 x0 x1).2.1 (by sl_whole_mem) y

/-- What case A leaves in scratch `arg8`: its pieces read back over junk. -/
def sout0_A_1 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) : Vec F S512x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 hc2 x0 x1).2.1)

/-- Case A's pieces for scratch `arg9`, which the kernel carries between points, cover it: 1 piece of `S8x2048` tiling it (Lib/Ring.lean `Piece.tiledL`). -/
theorem scover0_A_2 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) (y : S8x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1).2.2.1 S8x2048.size (by sl_kernel_rfl) y

/-- What case A leaves in scratch `arg9`: its pieces read back over junk. -/
def sout0_A_2 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) : Vec F S8x2048 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 hc2 x0 x1).2.2.1)

/-- Case A's pieces for scratch `arg10`, which the kernel carries between points, cover it: 1 piece of `S1x2048` tiling it (Lib/Ring.lean `Piece.tiledL`). -/
theorem scover0_A_3 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) (y : S1x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1).2.2.2.1 S1x2048.size (by sl_kernel_rfl) y

/-- What case A leaves in scratch `arg10`: its pieces read back over junk. -/
def sout0_A_3 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) : Vec F S1x2048 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 hc1 hc2 x0 x1).2.2.2.1)

/-- Case A's pieces for scratch `arg11`, which the kernel carries between points, cover it: 1 piece of `S8x2048x512` tiling it (Lib/Ring.lean `Piece.tiledL`). -/
theorem scover0_A_4 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) (y : S8x2048x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1).2.2.2.2.1 S8x2048x512.size (by sl_kernel_rfl) y

/-- What case A leaves in scratch `arg11`: its pieces read back over junk. -/
def sout0_A_4 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) : Vec F S8x2048x512 .bf16 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 hc0 hc1 hc2 x0 x1).2.2.2.2.1)

/-- Case A's pieces for scratch `arg12`, which the kernel carries between points, cover it: 2 pieces of `S1x1` tiling it (Lib/Ring.lean `Piece.tiledL`). -/
theorem scover0_A_5 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1).2.2.2.2.2.1 S1x1.size (by sl_kernel_rfl) y

/-- What case A leaves in scratch `arg12`: its pieces read back over junk. -/
def sout0_A_5 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : cond0_0 i) (hc1 : cond0_1 i) (hc2 : ¬cond0_2 i)
    (x0 : Vec F S512x512 .f32) (x1 : Vec F S8x2048x512 .f32) : Vec F S1x1 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 hc0 hc1 hc2 x0 x1).2.2.2.2.2.1)

/-- Case B's pieces for scratch `arg7`, which the kernel carries between points, cover it: 2 pieces of `S256x512` tiling it (Lib/Ring.lean `Piece.tiledL`). -/
theorem scover0_B_0 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).1 S256x512.size (by sl_kernel_rfl) y

/-- What case B leaves in scratch `arg7`: its pieces read back over junk. -/
def sout0_B_0 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S512x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).1)

/-- Case B's pieces for scratch `arg8`, which the kernel carries between points, cover it: 2 pieces of `S256x512` tiling it (Lib/Ring.lean `Piece.tiledL`). -/
theorem scover0_B_1 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.1 S256x512.size (by sl_kernel_rfl) y

/-- What case B leaves in scratch `arg8`: its pieces read back over junk. -/
def sout0_B_1 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S512x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.1)

/-- Case B stores nothing into scratch `arg9`: it holds what the point before left. -/
def sout0_B_2 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S8x2048 .f32 := xs2

/-- Case B stores nothing into scratch `arg10`: it holds what the point before left. -/
def sout0_B_3 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S1x2048 .f32 := xs3

/-- Case B stores nothing into scratch `arg11`: it holds what the point before left. -/
def sout0_B_4 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S8x2048x512 .bf16 := xs4

/-- Case B's pieces for scratch `arg12`, which the kernel carries between points, cover it: 1 piece of `S1x1` tiling it (Lib/Ring.lean `Piece.tiledL`). -/
theorem scover0_B_5 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.2.2.2.2.1 S1x1.size (by sl_kernel_rfl) y

/-- What case B leaves in scratch `arg12`: its pieces read back over junk. -/
def sout0_B_5 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : ¬cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S1x1 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.2.2.2.2.1)

/-- Case C's pieces for scratch `arg7`, which the kernel carries between points, cover it: 2 pieces of `S256x512` tiling it (Lib/Ring.lean `Piece.tiledL`). -/
theorem scover0_C_0 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).1 S256x512.size (by sl_kernel_rfl) y

/-- What case C leaves in scratch `arg7`: its pieces read back over junk. -/
def sout0_C_0 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S512x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).1)

/-- Case C's pieces for scratch `arg8`, which the kernel carries between points, cover it: 2 pieces of `S256x512` tiling it (Lib/Ring.lean `Piece.tiledL`). -/
theorem scover0_C_1 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.1 S256x512.size (by sl_kernel_rfl) y

/-- What case C leaves in scratch `arg8`: its pieces read back over junk. -/
def sout0_C_1 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S512x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.1)

/-- Case C stores nothing into scratch `arg9`: it holds what the point before left. -/
def sout0_C_2 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S8x2048 .f32 := xs2

/-- Case C stores nothing into scratch `arg10`: it holds what the point before left. -/
def sout0_C_3 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S1x2048 .f32 := xs3

/-- Case C stores nothing into scratch `arg11`: it holds what the point before left. -/
def sout0_C_4 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S8x2048x512 .bf16 := xs4

/-- Case C's pieces for scratch `arg12`, which the kernel carries between points, cover it: 1 piece of `S1x1` tiling it (Lib/Ring.lean `Piece.tiledL`). -/
theorem scover0_C_5 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.2.2.2.2.1 S1x1.size (by sl_kernel_rfl) y

/-- What case C leaves in scratch `arg12`: its pieces read back over junk. -/
def sout0_C_5 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : ¬cond0_1 i) (hc2 : cond0_2 i)
    (x0 : Vec F S512x512 .f32) (x1 : Vec F S8x2048x512 .f32) (xs0 : Vec F S512x512 .f32) (xs1 : Vec F S512x512 .f32) (xs2 : Vec F S8x2048 .f32) (xs3 : Vec F S1x2048 .f32) (xs4 : Vec F S8x2048x512 .bf16) (xs5 : Vec F S1x1 .f32) : Vec F S1x1 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 hc0 hc1 hc2 x0 x1 xs0 xs1 xs2 xs3 xs4 xs5).2.2.2.2.2.1)

/-- Case D's pieces for scratch `arg7`, which the kernel carries between points, cover it: one of them a store of the WHOLE buffer (Lib/Ring.lean `sl_whole_mem`). -/
theorem scover0_D_0 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).1, y ∈ pc.1.set :=
  View.cover_of_wholeMem (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).1 (by sl_whole_mem) y

/-- What case D leaves in scratch `arg7`: its pieces read back over junk. -/
def sout0_D_0 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) : Vec F S512x512 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).1)

/-- Case D's pieces for scratch `arg8`, which the kernel carries between points, cover it: one of them a store of the WHOLE buffer (Lib/Ring.lean `sl_whole_mem`). -/
theorem scover0_D_1 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).2.1, y ∈ pc.1.set :=
  View.cover_of_wholeMem (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).2.1 (by sl_whole_mem) y

/-- What case D leaves in scratch `arg8`: its pieces read back over junk. -/
def sout0_D_1 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) : Vec F S512x512 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).2.1)

/-- Case D stores nothing into scratch `arg9`: it holds what the point before left. -/
def sout0_D_2 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) : Vec F S8x2048 .f32 := xs2

/-- Case D stores nothing into scratch `arg10`: it holds what the point before left. -/
def sout0_D_3 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) : Vec F S1x2048 .f32 := xs3

/-- Case D stores nothing into scratch `arg11`: it holds what the point before left. -/
def sout0_D_4 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) : Vec F S8x2048x512 .bf16 := xs4

/-- Case D's pieces for scratch `arg12`, which the kernel carries between points, cover it: 1 piece of `S1x1` tiling it (Lib/Ring.lean `Piece.tiledL`). -/
theorem scover0_D_5 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).2.2.2.2.2.1 S1x1.size (by sl_kernel_rfl) y

/-- What case D leaves in scratch `arg12`: its pieces read back over junk. -/
def sout0_D_5 (c : Dev nD) (i : grid0.Coords) (arg2 : Memref sig .tc .vmem S512x512 .f32) (harg2 : arg2.IsWhole) (arg3 : Memref sig .tc .vmem S8x2048x512 .f32) (harg3 : arg3.IsWhole) (arg4 : Memref sig .tc .vmem S512x512 .f32) (harg4 : arg4.IsWhole) (arg5 : Memref sig .tc .vmem S1x8x512 .i32) (harg5 : arg5.IsWhole) (arg6 : Memref sig .tc .vmem S1x1 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S8x2048x512 .bf16) (harg11 : arg11.IsWhole) (arg12 : Memref sig .tc .smem S1x1 .f32) (harg12 : arg12.IsWhole) (hc0 : ¬cond0_0 i) (hc1 : cond0_1 i) (hc2 : ¬cond0_2 i)
    (x0 : Vec F S512x512 .f32) (x1 : Vec F S8x2048x512 .f32) (xs2 : Vec F S8x2048 .f32) (xs3 : Vec F S1x2048 .f32) (xs4 : Vec F S8x2048x512 .bf16) (xs5 : Vec F S1x1 .f32) : Vec F S1x1 .f32 :=
  VS0_5.read (Elt F) (VS0_5.writes (Elt F) VS0_5.junk (kernelRun0_D c i arg2 harg2 arg3 harg3 arg4 harg4 arg5 harg5 arg6 harg6 arg7 harg7 arg8 harg8 arg9 harg9 arg10 harg10 arg11 harg11 arg12 harg12 hc0 hc1 hc2 x0 x1 xs2 xs3 xs4 xs5).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .f32 × Vec F S512x512 .f32 × Vec F S8x2048 .f32 × Vec F S1x2048 .f32 × Vec F S8x2048x512 .bf16 × Vec F S1x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩))
  | n + 1, hn =>
    if h0 : (n + 1) % 128 = 0 then
      if h1 : (n + 1) % 8 = 0 then
        if h2 : (n + 1) % 8 = 7 then
          False.elim (by have hN : n + 1 < 128 := lt_of_lt_of_eq hn (show cfg0.N = 128 from N_0); omega)
        else
          (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩))
      else
        False.elim (by have hN : n + 1 < 128 := lt_of_lt_of_eq hn (show cfg0.N = 128 from N_0); omega)
    else
      if h1 : (n + 1) % 8 = 0 then
        if h2 : (n + 1) % 8 = 7 then
          False.elim (by have hN : n + 1 < 128 := lt_of_lt_of_eq hn (show cfg0.N = 128 from N_0); omega)
        else
          (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        if h2 : (n + 1) % 8 = 7 then
          (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
        else
          (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 128 = 0) (h1 : t.val % 8 = 0) (h2 : ¬t.val % 8 = 7) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (iblk m c 1 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (iblk m c 1 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (iblk m c 1 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (iblk m c 1 t), sout0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (iblk m c 1 t), sout0_A_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (iblk m c 0 t) (iblk m c 1 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 128 = 0) (h1 : ¬t.val % 8 = 0) (h2 : ¬t.val % 8 = 7) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 128 = 0) (h1 : ¬t.val % 8 = 0) (h2 : t.val % 8 = 7) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case D: that case's contents, over what the point before left. -/
theorem outsAt0_D (c : Dev nD) (t : Fin cfg0.N) (h0 : ¬t.val % 128 = 0) (h1 : t.val % 8 = 0) (h2 : ¬t.val % 8 = 7) :
    outsAt0 m c t.val t.isLt = (sout0_D_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_D_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_D_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_D_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_D_5 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2.1) ∗ owns (c : Thread nD τ) scM0_5 fullShare ((outsAt0 m c n hn).2.2.2.2.2)) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2.1) ∗ owns (c : Thread nD τ) scM0_5 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2.1) ∗ owns (c : Thread nD τ) scM0_5 fullShare ((outsAt0 m c (n - 1) (by omega)).2.2.2.2.2)) ∗ (∃ r, prngReg c r)) := by
  cases n with
  | zero => exact absurd rfl hz
  | succ n => rfl

/-! ## The pipeline's proof data -/

/-- The output windows this certificate FORGETS (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The same for the second window. -/
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The same for the second window. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · by_cases h1 : t.val % 8 = 0
    · by_cases h2 : t.val % 8 = 7
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        by_cases hz : t.val = 0
        · rw [PhiS_castSucc m c t, PhiS_zero m c _ _ hz, PhiA0_eq]
          rw [outsAt0_A m c t h0 h1 h2]
          unfold sout0_A_0 sout0_A_1 sout0_A_2 sout0_A_3 sout0_A_4 sout0_A_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t)).2.2.2.2.2.2 Set.univ _)
          isplitl [H0]; · iexact H0
          isplitl [H1]; · iexact H1
          isplitl [H2]; · iexists _; iexact H2
          isplitl [H3]; · iexists _; iexact H3
          isplitl [H4]; · iexists _; iexact H4
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, ⟨%es0, HS0⟩, ⟨%es1, HS1⟩, ⟨%es2, HS2⟩, ⟨%es3, HS3⟩, ⟨%es4, HS4⟩, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _)
              isplitl [HS4]
              · unfold owns; iexists _; isplitr
                swap; · iexact HS4
                ipureintro; exact View.read_writes_of_cover _ _ _ _ _ (scover0_A_4 c _ _ _ _ _ _ _ _ _ _ _ _ _ _ _ _ _ _ _ _ _ _ _ _ _ _ _ _)
              unfold owns; iexists _; isplitr
              swap; · iexact HS5
              ipureintro; exact View.read_writes_of_cover _ _ _ _ _ (scover0_A_5 c _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexact H4
        · exfalso; have hN : t.val < 128 := lt_of_lt_of_eq t.isLt (show cfg0.N = 128 from N_0); omega
    · exfalso; omega
  · by_cases h1 : t.val % 8 = 0
    · by_cases h2 : t.val % 8 = 7
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        by_cases hz : t.val = 0
        · exfalso; have hN : t.val < 128 := lt_of_lt_of_eq t.isLt (show cfg0.N = 128 from N_0); omega
        · rw [PhiS_castSucc m c t, PhiS_pos m c _ _ hz]
          rw [outsAt0_D m c t h0 h1 h2]
          unfold sout0_D_0 sout0_D_1 sout0_D_2 sout0_D_3 sout0_D_4 sout0_D_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) _ _ _ _).2.2.2.2.2.2 Set.univ _)
          isplitl [H0]; · iexact H0
          isplitl [H1]; · iexact H1
          isplitl [H2]; · iexists _; iexact H2
          isplitl [H3]; · iexists _; iexact H3
          isplitl [H4]; · iexists _; iexact H4
          isplitl [HS0]; · iexists _; iexact HS0
          isplitl [HS1]; · iexists _; iexact HS1
          isplitl [HS2]; · iexact HS2
          isplitl [HS3]; · iexact HS3
          isplitl [HS4]; · iexact HS4
          isplitl [HS5]; · iexact HS5
          iintro ⟨H0, H1, H2, H3, H4, ⟨%es0, HS0⟩, ⟨%es1, HS1⟩, HS2, HS3, HS4, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _)
              isplitl [HS2]
              · iexact HS2
              isplitl [HS3]
              · iexact HS3
              isplitl [HS4]
              · iexact HS4
              unfold owns; iexists _; isplitr
              swap; · iexact HS5
              ipureintro; exact View.read_writes_of_cover _ _ _ _ _ (scover0_D_5 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexact H4
    · by_cases h2 : t.val % 8 = 7
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        by_cases hz : t.val = 0
        · exfalso; have hN : t.val < 128 := lt_of_lt_of_eq t.isLt (show cfg0.N = 128 from N_0); omega
        · rw [PhiS_castSucc m c t, PhiS_pos m c _ _ hz]
          rw [outsAt0_C m c t h0 h1 h2]
          unfold sout0_C_0 sout0_C_1 sout0_C_2 sout0_C_3 sout0_C_4 sout0_C_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) _ _ _ _ _ _).2.2.2.2.2.2 Set.univ _)
          isplitl [H0]; · iexact H0
          isplitl [H1]; · iexact H1
          isplitl [H2]; · iexists _; iexact H2
          isplitl [H3]; · iexists _; iexact H3
          isplitl [H4]; · iexists _; iexact H4
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, ⟨%es0, HS0⟩, ⟨%es1, HS1⟩, HS2, HS3, HS4, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _)
              isplitl [HS2]
              · iexact HS2
              isplitl [HS3]
              · iexact HS3
              isplitl [HS4]
              · iexact HS4
              unfold owns; iexists _; isplitr
              swap; · iexact HS5
              ipureintro; exact View.read_writes_of_cover _ _ _ _ _ (scover0_C_5 c _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexact H4
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        by_cases hz : t.val = 0
        · exfalso; have hN : t.val < 128 := lt_of_lt_of_eq t.isLt (show cfg0.N = 128 from N_0); omega
        · rw [PhiS_castSucc m c t, PhiS_pos m c _ _ hz]
          rw [outsAt0_B m c t h0 h1 h2]
          unfold sout0_B_0 sout0_B_1 sout0_B_2 sout0_B_3 sout0_B_4 sout0_B_5; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) _ _ _ _ _ _).2.2.2.2.2.2 Set.univ _)
          isplitl [H0]; · iexact H0
          isplitl [H1]; · iexact H1
          isplitl [H2]; · iexists _; iexact H2
          isplitl [H3]; · iexists _; iexact H3
          isplitl [H4]; · iexists _; iexact H4
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, ⟨%es0, HS0⟩, ⟨%es1, HS1⟩, HS2, HS3, HS4, ⟨%es5, HS5⟩⟩
          isplitl [HS0 HS1 HS2 HS3 HS4 HS5 Hg]
          · isplitl [HS0 HS1 HS2 HS3 HS4 HS5]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _)
              isplitl [HS2]
              · iexact HS2
              isplitl [HS3]
              · iexact HS3
              isplitl [HS4]
              · iexact HS4
              unfold owns; iexists _; isplitr
              swap; · iexact HS5
              ipureintro; exact View.read_writes_of_cover _ _ _ _ _ (scover0_B_5 c _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 2, 3, 4) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Whole

end
-- ==== Proof.Setup.lean ====
/- The launch's set-up: the conditions of the body's three `if`s at a grid point, and the statement that one run of
   the body leaves given lists of pieces in the windows and in the scratch. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.PureOps.Ideal
public import Idealize.ShloMosaic.PureOps.IdealRules

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The first `if`: the first point of the grid. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The second `if`: level 0. -/
abbrev condZero (i : grid0.Coords) : Prop := (Scalar.cmpi .ne (Scalar.extui (Scalar.cmpi .eq (BitVec.ofNat 32 (i 1).val) 0#32)) 0#32) = 1#1

/-- The third `if`: level 7. -/
abbrev condLast (i : grid0.Coords) : Prop := k0_cond3 i = 1#1

/-- The first coordinate of a point is its tile. -/
theorem coord_tile (t : Fin cfg0.N) : (grid0.coords t 0).val = t.val / 8 := by
  have ht : t.val < 128 := Nat.lt_of_lt_of_eq t.isLt N_0
  have e0 : (grid0.coords t 0).val = t.val / 8 % 16 := Pipeline.Grid.coords_val t 0 (by decide) rfl
  omega

/-- The second coordinate of a point is its level. -/
theorem coord_level (t : Fin cfg0.N) : (grid0.coords t 1).val = t.val % 8 := by
  have e1 : (grid0.coords t 1).val = t.val / 1 % 8 := Pipeline.Grid.coords_val t 1 (by decide) rfl
  omega

/-- The first `if` is taken at the first point only. -/
theorem condFirst_iff (t : Fin cfg0.N) : condFirst (grid0.coords t) ↔ t.val = 0 := by
  have ht : t.val < 128 := Nat.lt_of_lt_of_eq t.isLt N_0
  simp only [condFirst, coord_tile, coord_level]
  word_cmp

/-- The second `if` is taken at level 0. -/
theorem condZero_iff (t : Fin cfg0.N) : condZero (grid0.coords t) ↔ t.val % 8 = 0 := by
  have ht : t.val < 128 := Nat.lt_of_lt_of_eq t.isLt N_0
  simp only [condZero, coord_level]
  word_cmp

/-- The third `if` is taken at level 7. -/
theorem condLast_iff (t : Fin cfg0.N) : condLast (grid0.coords t) ↔ t.val % 8 = 7 := by
  have ht : t.val < 128 := Nat.lt_of_lt_of_eq t.isLt N_0
  simp only [condLast, k0_cond3, coord_level]
  word_cmp

variable (c : Dev nD) (i : grid0.Coords)
  (arg2 : Memref sig .tc .vmem S512x512 .f32) (harg2 : arg2.IsWhole)
  (arg3 : Memref sig .tc .vmem S8x2048x512 .f32) (harg3 : arg3.IsWhole)
  (arg4 : Memref sig .tc .vmem S512x512 .f32) (harg4 : arg4.IsWhole)
  (arg5 : Memref sig .tc .vmem S1x8x512 .i32) (harg5 : arg5.IsWhole)
  (arg6 : Memref sig .tc .vmem S1x1 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x2048 .f32) (harg9 : arg9.IsWhole)
  (arg10 : Memref sig .tc .vmem S1x2048 .f32) (harg10 : arg10.IsWhole)
  (arg11 : Memref sig .tc .vmem S8x2048x512 .bf16) (harg11 : arg11.IsWhole)
  (arg12 : Memref sig .tc .smem S1x1 .f32) (harg12 : arg12.IsWhole)

/-- The body's run on any staging buffers: from contents `x2` … `x12` it ends with contents `y4` … `y12` of the
    outputs and of the scratch, the inputs as found. -/
def BodyTo (x2 : Vec Ideal S512x512 .f32) (x3 : Vec Ideal S8x2048x512 .f32) (x4 : Vec Ideal S512x512 .f32) (x5 : Vec Ideal S1x8x512 .i32) (x6 : Vec Ideal S1x1
    .f32) (x7 : Vec Ideal S512x512 .f32) (x8 : Vec Ideal S512x512 .f32) (x9 : Vec Ideal S8x2048 .f32) (x10 : Vec Ideal S1x2048 .f32) (x11 : Vec Ideal
    S8x2048x512 .bf16) (x12 : Vec Ideal S1x1 .f32)
    (y4 : Vec Ideal S512x512 .f32) (y5 : Vec Ideal S1x8x512 .i32) (y6 : Vec Ideal S1x1 .f32) (y7 : Vec Ideal S512x512 .f32) (y8 : Vec Ideal S512x512 .f32)
    (y9 : Vec Ideal S8x2048 .f32) (y10 : Vec Ideal S1x2048 .f32) (y11 : Vec Ideal S8x2048x512 .bf16) (y12 : Vec Ideal S1x1 .f32) : Prop :=
  ∀ (E : Set ℕ) (K : Unit → sProp 𝕄),
    iprop(owns (c : Thread nD τ) arg2 fullShare x2 ∗ owns (c : Thread nD τ) arg3 fullShare x3 ∗ owns (c : Thread nD τ) arg4 fullShare x4 ∗ owns (c : Thread nD
        τ) arg5 fullShare x5 ∗ owns (c : Thread nD τ) arg6 fullShare x6 ∗ owns (c : Thread nD τ) arg7 fullShare x7 ∗ owns (c : Thread nD τ) arg8
        fullShare x8 ∗ owns (c : Thread nD τ) arg9 fullShare x9 ∗ owns (c : Thread nD τ) arg10 fullShare x10 ∗ owns (c : Thread nD τ) arg11 fullShare
        x11 ∗ owns (c : Thread nD τ) arg12 fullShare x12
        ∗ (iprop(owns (c : Thread nD τ) arg2 fullShare x2 ∗ owns (c : Thread nD τ) arg3 fullShare x3 ∗ owns (c : Thread nD τ) arg4 fullShare y4 ∗ owns (c : Thread nD
            τ) arg5 fullShare y5 ∗ owns (c : Thread nD τ) arg6 fullShare y6 ∗ owns (c : Thread nD τ) arg7 fullShare y7 ∗ owns (c : Thread nD τ) arg8
            fullShare y8 ∗ owns (c : Thread nD τ) arg9 fullShare y9 ∗ owns (c : Thread nD τ) arg10 fullShare y10 ∗ owns (c : Thread nD τ) arg11
            fullShare y11 ∗ owns (c : Thread nD τ) arg12 fullShare y12)
            -∗ K ⟨⟩))
      ⊢ wp frame (wpE (defs₀ (F := Ideal)) Variants.none c none) E
          (cc0__rvq_kernel i arg2 harg2 arg3 harg3 arg4 harg4 arg5 harg5 arg6 harg6 arg7 harg7 arg8 harg8 arg9 harg9 arg10 harg10 arg11 harg11 arg12 harg12) K

/-! ## What a level does to the tile's rows, in two halves of 256 rows -/

section Level

variable (x3 : Vec Ideal S8x2048x512 .f32) (cs : Vec Ideal S8x2048 .f32) (io : Vec Ideal S1x2048 .f32)
  (lo : Vec Ideal S8x2048x512 .bf16) (R Q : Vec Ideal S512x512 .f32) (z : Ideal .f32) (J : Vec Ideal S1x8x512 .i32)

/-- The level's codebook. -/
def cbAt : Vec Ideal S1x2048x512 .f32 := View.ld x3 (Rect.unit (s := S8x2048x512) (k0_off1 i) S1x2048x512.size (k0_off1_inb i))
/-- The level's rounding remainders. -/
def loAt : Vec Ideal S1x2048x512 .bf16 := View.ld lo (Rect.unit (s := S8x2048x512) (k0_off1 i) S1x2048x512.size (k0_off1_inb i))
/-- The level's squared norms. -/
def csAt : Vec Ideal S1x2048 .f32 := View.ld cs (Rect.unit (s := S8x2048) (k0_off2 i) S1x2048.size (k0_off2_inb i))
/-- The upper 256 rows. -/
def half0 : Vec Ideal S256x512 .f32 := View.ld R (Rect.unit (s := S512x512) ![0, 0] S256x512.size inb_S512x512_S256x512_0_0)
/-- The lower 256 rows. -/
def half1 : Vec Ideal S256x512 .f32 := View.ld R (Rect.unit (s := S512x512) ![256, 0] S256x512.size inb_S512x512_S256x512_256_0)
/-- Two halves put over what was there. -/
def halves (w0 w1 : Vec Ideal S256x512 .f32) : Vec Ideal S512x512 .f32 :=
  VecWindow.put (VecWindow.put R ![0, 0] S256x512.size w0) ![256, 0] S256x512.size w1

/-- The residual after the level. -/
def resTo : Vec Ideal S512x512 .f32 :=
  halves R
    (k0_pay16 (k0_pay9 (cbAt i x3)) (k0_pay10 (loAt i lo)) io (half0 R) (k0_pay13 (cbAt i x3) (csAt i cs) io (half0 R)))
    (k0_pay25 (k0_pay9 (cbAt i x3)) (k0_pay10 (loAt i lo)) (csAt i cs) io (half1 R) (k0_pay20 (k0_pay9 (cbAt i x3)) (half1 R)))
/-- The quantized sum after the level. -/
def sumTo : Vec Ideal S512x512 .f32 :=
  halves Q
    (k0_pay17 (k0_pay9 (cbAt i x3)) (k0_pay10 (loAt i lo)) io (k0_pay13 (cbAt i x3) (csAt i cs) io (half0 R)) (half0 Q))
    (k0_pay26 (k0_pay9 (cbAt i x3)) (k0_pay10 (loAt i lo)) (csAt i cs) io (k0_pay20 (k0_pay9 (cbAt i x3)) (half1 R)) (half1 Q))
/-- The loss after the level. -/
def lossTo : Ideal .f32 :=
  k0_pay1 (k0_pay27 (csAt i cs) (k0_pay18 (k0_pay12 (cbAt i x3) (csAt i cs) (half0 R))) (k0_pay20 (k0_pay9 (cbAt i x3)) (half1 R))) z
/-- The indices' block after the level. -/
def idxTo : Vec Ideal S1x8x512 .i32 :=
  VecWindow.put (VecWindow.put J (k0_off3 i) S1x1x256.size (k0_pay19 (k0_pay13 (cbAt i x3) (csAt i cs) io (half0 R))))
    (k0_off4 i) S1x1x256.size (k0_pay28 (csAt i cs) io (k0_pay20 (k0_pay9 (cbAt i x3)) (half1 R)))

end Level

/-! ## Reading what the body's stores leave -/

section Reading

variable {sp : Space} {s : Shape} {e : EltTy} (m : Memref sig .tc sp s e)

/-- A load of a whole buffer's known contents. -/
theorem load_known (h : m.IsWhole) (x : Vec Ideal s e) (r : Rect s) :
    m.view.readAt (Elt Ideal) r.toLoadRect (h.unread x) = View.ld x r := by
  rw [View.readAt_eq_ld, h.read_unread]

/-- A load after stores that cover it is a load of what they leave. -/
theorem load_cov (L : List (View.Piece (Elt Ideal) s e)) (r : Rect s) :
    m.view.readCov L r.toLoadRect = View.ld (m.view.read (Elt Ideal) (m.view.writes (Elt Ideal) m.view.junk L)) r := rfl

/-- The same of a load stated over any contents. -/
theorem load_after (f : m.view.ty.Contents (Elt Ideal)) (L : List (View.Piece (Elt Ideal) s e)) (r : Rect s) :
    m.view.readAt (Elt Ideal) r.toLoadRect (m.view.writes (Elt Ideal) f L) = View.ld (m.view.read (Elt Ideal) (m.view.writes (Elt Ideal) f L)) r := rfl

/-- What a store leaves is what was there with the payload put over it. -/
theorem read_store (f : m.view.ty.Contents (Elt Ideal)) {off size : Fin s.rank → ℕ} (inb : ∀ a, off a + size a ≤ s.size a)
    (w : (Rect.unit off size inb).shape.Idx → Elt Ideal e) (L : List (View.Piece (Elt Ideal) s e)) :
    m.view.read (Elt Ideal) (m.view.writes (Elt Ideal) f (⟨Rect.unit off size inb, w⟩ :: L))
      = VecWindow.put (m.view.read (Elt Ideal) (m.view.writes (Elt Ideal) f L)) off size w :=
  View.read_writes_cons_put _ _ _ _ _ rfl

/-- With nothing stored the known contents are read. -/
theorem read_none (h : m.IsWhole) (x : Vec Ideal s e) : m.view.read (Elt Ideal) (m.view.writes (Elt Ideal) (h.unread x) []) = x :=
  h.read_unread x

/-- A load of everything. -/
theorem ld_all (X : Vec Ideal s e) {off : Fin s.rank → ℕ} (inb : ∀ a, off a + s.size a ≤ s.size a) : View.ld X (Rect.unit off s.size inb) = X := by
  funext y
  exact congrArg X (funext fun a => Fin.ext (by
    show off a + 1 * (y a).val = (y a).val
    have := inb a; omega))

/-- A store over everything. -/
theorem put_all (X : Vec Ideal s e) (off : Fin s.rank → ℕ) (w : Vec Ideal s e) (inb : ∀ a, off a + s.size a ≤ s.size a) :
    VecWindow.put X off s.size w = w := by
  funext y
  have h : ∀ a, off a ≤ (y a).val ∧ (y a).val < off a + s.size a := fun a => by
    have := inb a; have := (y a).isLt; omega
  refine (dif_pos h).trans (congrArg w (funext fun a => Fin.ext ?_))
  have := inb a
  show (y a).val - off a = (y a).val
  omega

end Reading

/-- A read of the whole row of numbers is that row. -/
theorem ld_io (X : Vec Ideal S1x2048 .f32) (inb : ∀ a, (![0, 0] : Fin 2 → ℕ) a + (![1, 2048] : Fin 2 → ℕ) a ≤ S1x2048.size a) :
    View.ld X (Rect.unit (s := S1x2048) ![0, 0] ![1, 2048] inb) = X := ld_all X inb
/-- A read of a single entry is that entry. -/
theorem ld_one (X : Vec Ideal S1x1 .f32) (inb : ∀ a, (![0, 0] : Fin 2 → ℕ) a + (![1, 1] : Fin 2 → ℕ) a ≤ S1x1.size a) :
    View.ld X (Rect.unit (s := S1x1) ![0, 0] ![1, 1] inb) = X := ld_all X inb
/-- A read of a whole tile is that tile. -/
theorem ld_tile (X : Vec Ideal S512x512 .f32) (inb : ∀ a, (![0, 0] : Fin 2 → ℕ) a + (![512, 512] : Fin 2 → ℕ) a ≤ S512x512.size a) :
    View.ld X (Rect.unit (s := S512x512) ![0, 0] ![512, 512] inb) = X := ld_all X inb
/-- A read of all the codebooks is all the codebooks. -/
theorem ld_books (X : Vec Ideal S8x2048x512 .f32) (inb : ∀ a, (![0, 0, 0] : Fin 3 → ℕ) a + (![8, 2048, 512] : Fin 3 → ℕ) a ≤ S8x2048x512.size a) :
    View.ld X (Rect.unit (s := S8x2048x512) ![0, 0, 0] ![8, 2048, 512] inb) = X := ld_all X inb
/-- A write over the whole row of numbers leaves what was written. -/
theorem put_io (X : Vec Ideal S1x2048 .f32) (w : ((a : Fin S1x2048.rank) → Fin ((![1, 2048] : Fin 2 → ℕ) a)) → Elt Ideal .f32) :
    VecWindow.put (s := S1x2048) (α := Elt Ideal .f32) X ![0, 0] ![1, 2048] w = w :=
  put_all X _ w inb_S1x2048_S1x2048_0_0
/-- A write over a single entry leaves what was written. -/
theorem put_one (X : Vec Ideal S1x1 .f32) (w : ((a : Fin S1x1.rank) → Fin ((![1, 1] : Fin 2 → ℕ) a)) → Elt Ideal .f32) :
    VecWindow.put (s := S1x1) (α := Elt Ideal .f32) X ![0, 0] ![1, 1] w = w := put_all X _ w inb_S1x1_S1x1_0_0
/-- A write over a whole tile leaves what was written. -/
theorem put_tile (X : Vec Ideal S512x512 .f32) (w : ((a : Fin S512x512.rank) → Fin ((![512, 512] : Fin 2 → ℕ) a)) → Elt Ideal .f32) :
    VecWindow.put (s := S512x512) (α := Elt Ideal .f32) X ![0, 0] ![512, 512] w = w :=
  put_all X _ w inb_S512x512_S512x512_0_0
/-- A write over all the codewords' norms leaves what was written. -/
theorem put_norms (X : Vec Ideal S8x2048 .f32) (w : ((a : Fin S8x2048.rank) → Fin ((![8, 2048] : Fin 2 → ℕ) a)) → Elt Ideal .f32) :
    VecWindow.put (s := S8x2048) (α := Elt Ideal .f32) X ![0, 0] ![8, 2048] w = w :=
  put_all X _ w inb_S8x2048_S8x2048_0_0
/-- A write over all the rests of the codewords leaves what was written. -/
theorem put_lo (X : Vec Ideal S8x2048x512 .bf16) (w : ((a : Fin S8x2048x512.rank) → Fin ((![8, 2048, 512] : Fin 3 → ℕ) a)) → Elt Ideal .bf16) :
    VecWindow.put (s := S8x2048x512) (α := Elt Ideal .bf16) X ![0, 0, 0] ![8, 2048, 512] w = w :=
  put_all X _ w inb_S8x2048x512_S8x2048x512_0_0_0

/-- What is put over the upper half leaves the lower half. -/
theorem half1_put (R : Vec Ideal S512x512 .f32) (w : Vec Ideal S256x512 .f32) :
    half1 (VecWindow.put R ![0, 0] S256x512.size w) = half1 R := by
  funext y
  refine dif_neg fun h => ?_
  have h0 := (h 0).2
  have e : ((Rect.unit (s := S512x512) ![256, 0] S256x512.size inb_S512x512_S256x512_256_0).idx y 0).val = 256 + 1 * (y 0).val := rfl
  rw [e] at h0
  have : (![0, 0] : Fin 2 → ℕ) 0 + S256x512.size 0 = 256 := rfl
  omega

/-- The same, of the load spelt out. -/
theorem ld_put_low (R : Vec Ideal S512x512 .f32) (w : Vec Ideal S256x512 .f32) :
    View.ld (VecWindow.put (s := S512x512) (α := Elt Ideal .f32) R ![0, 0] ![256, 512] w)
        (Rect.unit (s := S512x512) ![256, 0] ![256, 512] inb_S512x512_S256x512_256_0)
      = View.ld R (Rect.unit (s := S512x512) ![256, 0] ![256, 512] inb_S512x512_S256x512_256_0) := half1_put R w

/-- Two halves cover everything. -/
theorem halves_over (R R' : Vec Ideal S512x512 .f32) (w0 w1 : Vec Ideal S256x512 .f32) : halves R w0 w1 = halves R' w0 w1 := by
  funext y
  unfold halves VecWindow.put
  split
  · rfl
  · next h1 =>
    split
    · rfl
    · next h0 =>
      exfalso
      have hy0 : (y 0).val < 512 := (y 0).isLt
      have hy1 : (y 1).val < 512 := (y 1).isLt
      by_cases hc : (y 0).val < 256
      · exact h0 (Fin.forall_fin_two.mpr ⟨⟨Nat.zero_le _, by show _ < 0 + 256; omega⟩, ⟨Nat.zero_le _, by show _ < 0 + 512; omega⟩⟩)
      · exact h1 (Fin.forall_fin_two.mpr ⟨⟨by show 256 ≤ _; omega, by show _ < 256 + 256; omega⟩, ⟨Nat.zero_le _, by show _ < 0 + 512; omega⟩⟩)

end Cert.Rvq
-- ==== Proof.Launch.lean ====
/- The run of the whole program from any proof data of its one pipeline: what its arrays may hold at the end, and every
   other buffer as the host operations after the pipeline leave it. -/
module

public import proofs.«01_k».proof.Proof.Setup
public import Idealize.ShloMosaic.Lib.Pipeline.Quiescent

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline

local notation "𝕄" => MT nD τ sig Unit (Elt Ideal) ℕ (UR sig nD τ) ℕ

variable (m : (ℓ : Loc nD τ sig) → Buf (Elt Ideal) ℓ) (ρ : Dev nD → PrngReg)
  (rdat : (c : Dev nD) → RDat τ (Elt Ideal) Unit ℕ (UR sig nD τ) ℕ cfg0 c)

/-- Contents of the pipeline's arrays. -/
abbrev Arrays (c : Dev nD) := (w : Fin cfg0.W) → Buf (Elt Ideal) ((cfg0.win w).arr.view.loc (c : Thread nD τ))

/-- The buffers once the host operations after the pipeline are done, from the arrays' contents. -/
abbrev tailOf (c : Dev nD) (A : Arrays c) (b : Ref sig .tc) : Buf (Elt Ideal) ((c : Thread nD τ).loc b) :=
  StableHlo.after (List.flatten [hostOps1]) (withArrays spec0 c (V0 m c) A) (Proc.devRef .tc b)

/-- The arrays at the end, opened: some contents that they may hold. -/
theorem arrays_open (c : Dev nD) : ((rdat c).arraysAt cfg0.N : sProp 𝕄) ⊢ iprop(∃ A, ⌜∀ w, (rdat c).ArrAt w cfg0.N (A w)⌝ ∗ (rdat c).arrays A) := by
  unfold RDat.arraysAt RDat.arrays
  refine (BI.bigSep_exists_pi Finset.univ _).trans ?_
  iintro ⟨%A, H⟩
  ihave H' := (BI.bigSep_pure_sep Finset.univ (fun w => (rdat c).ArrAt w cfg0.N (A w)) _) $$ H
  icases H' with ⟨%h, H⟩
  iexists A
  isplitr
  · ipureintro; exact fun w => h w (Finset.mem_univ w)
  · iexact H

/-- And closed again. -/
theorem arrays_close (c : Dev nD) (A : Arrays c) (h : ∀ w, (rdat c).ArrAt w cfg0.N (A w)) :
    ((rdat c).arrays A : sProp 𝕄) ⊢ (rdat c).arraysAt cfg0.N := by
  unfold RDat.arraysAt RDat.arrays
  refine BI.bigSep_mono fun w _ => ?_
  refine (?_ : (View.loc (c : Thread nD τ) (cfg0.win w).arr.view ↦[(cfg0.win w).arr.view.set]{(rdat c).share w} A w : sProp 𝕄) ⊢ _)
  iintro H
  iexists (A w)
  isplitr
  · ipureintro; exact h w
  · iexact H

set_option backward.isDefEq.respectTransparency.types false in
set_option maxHeartbeats 1600000 in
/-- The program's run, from a proof of its body at every point. -/
theorem run_to (hbody : ∀ c, (rdat c).BodyObligation (defs₀ (F := Ideal)) Variants.none () Set.univ)
    (hshare : ∀ c w, (rdat c).share w = fullShare) (howed : ∀ c t, (rdat c).owed t = 0)
    (hA : ∀ c w, (rdat c).A w = V m c (arrRef spec0 w))
    (hin : ∀ c, ΦA spec0 c ⊢ (rdat c).Φ 0) (hout : ∀ c, (rdat c).Φ (Fin.last cfg0.N) ⊢ ΦA spec0 c) :
    θ_run defs (onTc (τ := τ) (main (F := Ideal))) (s₀ m ρ) (fun r =>
      (∀ c : Dev nD, (∀ w, (rdat c).ArrAt w cfg0.N (r.2.mem ((spec0 w).arr.view.loc (c : Thread nD τ))))
        ∧ ∃ A : Arrays c, (∀ w, (rdat c).ArrAt w cfg0.N (A w)) ∧
          ∀ b ∈ restRefsP sig Prefetch.none spec0, r.2.mem ((c : Thread nD τ).loc b) = tailOf m c A b)
      ∧ r.2.sem = fun _ => 0) := by
  have hq : ∀ c w, (spec0 w).isOut = false → (rdat c).q w = shareOf spec0 w := fun c w hw =>
    (rdat c).q_eq_shareOf_of_share_full launch0.win.arr_inj (hshare c) w hw
  let pcs : Fin 1 → PCfg sig _ (Elt Ideal) := fun q => (cfgs q).toPCfg
  let a : (q : Fin 1) → (pcs q).Adm := fun q => (cfgs q).toPCfg_adm
  have kit := (launch0.toP (Val := Elt Ideal)).to₀
  refine RDat.θ_run_region_pf_tail_quiescent pcs a (RDat.familyOf pcs a 0 rdat) () (kit.cellOf_inj a) 0 kit.win (OwnSemFacts.none spec0) kit.pre
    emb₁ defs₀ Variants.none m ρ main (fun _ => chain ([hostOps1].map StableHlo.seq)) (fun c => by rw [RDat.familyOf_self]; exact hbody c)
    kit.block_pos kit.arr_whole kit.stage_whole (fun c t => by rw [RDat.familyOf_self]; exact howed c t)
    (fun _ => iprop(emp)) (initOf (cells (pin pcs a) (kit.cellOf_inj a)) (launchToks (pin pcs a) (kit.cellOf_inj a))) ?_
    (V m) (hmain m Variants.none) (fun c => by
      rw [RDat.familyOf_self]; exact (rdat c).arrays_split_shared kit.sharedIn kit.arr_whole (hq c) (V m c) _ (hA c))
    (fun _ k => k.elim0)
    (fun c => iprop(∃ r, prngReg c r)) (fun c => iprop(∃ r, prngReg c r))
    (fun c => unscopedRestP (Ix := Unit) (Name := ℕ) (U := UR sig nD τ) (Lvl := ℕ) Prefetch.none spec0 c (V m c))
    (fun c => iprop(∃ A : Arrays c, ⌜∀ w, (rdat c).ArrAt w cfg0.N (A w)⌝
      ∗ unscopedRestP (Ix := Unit) (Name := ℕ) (U := UR sig nD τ) (Lvl := ℕ) Prefetch.none spec0 c (tailOf m c A)))
    ?_ ?_ ?_ ?_
    (fun c s => ∃ A : Arrays c, (∀ w, (rdat c).ArrAt w cfg0.N (A w)) ∧
      ∀ b ∈ restRefsP sig Prefetch.none spec0, s.mem ((c : Thread nD τ).loc b) = tailOf m c A b) ?_ ?_
  · iintro Hu
    imodintro
    isplitl [Hu]
    · iapply (show (ownU _ : sProp 𝕄) ⊢ BI.own (emb₁ (initOf (cells (pin pcs a) (kit.cellOf_inj a)) (launchToks (pin pcs a) (kit.cellOf_inj a)))) from .rfl)
      iexact Hu
    · iapply (show (BI.emp : sProp 𝕄) ⊢ bigSep Finset.univ (fun _ : Dev nD => (BI.emp : sProp 𝕄)) from by rw [BI.bigSep_emp_const])
      iempintro
  · intro c
    iintro ⟨HU, -, -, Hp, -⟩
    imodintro
    isplitl [Hp]
    · iexists _; iexact Hp
    · iexact HU
  · intro c
    rw [RDat.familyOf_self]
    refine (?_ : _ ⊢ ΦA spec0 c).trans (hin c)
    unfold ΦA
    iintro ⟨Hp, -, Hr⟩
    isplitl [Hr]
    · iexact Hr
    · iexact Hp
  · intro c
    rw [RDat.familyOf_self]
    refine (hout c).trans ?_
    rw [ownSems0_none]
    unfold ΦA
    iintro ⟨Hr, Hp⟩
    isplitl [Hp]
    · iexact Hp
    isplitr
    · iempintro
    · iexact Hr
  · intro c Q'
    rw [RDat.familyOf_self]
    iintro ⟨Hk, Hb, Ha, HZ⟩
    ihave Ha' := (arrays_open rdat c) $$ Ha
    icases Ha' with ⟨%A, %hA', Ha⟩
    have hB : ((rdat c).arrays A : sProp 𝕄) = arrBufs spec0 c (fun b => withArrays spec0 c (V0 m c) A (Proc.devRef .tc b)) :=
      ((rdat c).arrBufs_eq_arrays kit.sharedIn kit.arr_whole (hq c) _ A fun w =>
        (withArrays_arr_shared spec0 c (V0 m c) A ((rdat c).ArrAt_sharedIn kit.sharedIn (V0 m c) (hA c) cfg0.N A hA') w).symm).symm
    iapply (tail_seqs_bufs_b pcs defs₀ Variants.none Prefetch.none spec0 c (V0 m c) A [hostOps1] sfx_sub sfx_fresh sfx_keeps Q')
    isplitl [Hk]
    · iintro ⟨Hb, Ha, Hu⟩
      iapply Hk
      isplitl [Hb]
      · iexact Hb
      isplitl [Ha]
      · iapply (arrays_close rdat c A hA')
        iapply (Entails.of_eq hB.symm)
        iexact Ha
      · iexists A
        isplitr
        · ipureintro; exact hA'
        · iexact Hu
    isplitl [Hb]
    · iexact Hb
    isplitl [Ha]
    · iapply (Entails.of_eq hB)
      iexact Ha
    · iexact HZ
  · intro c s
    iintro ⟨-, HZ, HSI⟩
    icases HZ with ⟨%A, %hA', HZ⟩
    unfold unscopedRestP
    ihave HZ' := (pointsTo_read_all (restRefsP sig Prefetch.none spec0) (fun b => (c : Thread nD τ).loc b) (tailOf m c A) s) $$ [HZ HSI]
    · isplitl [HZ] <;> iassumption
    icases HZ' with ⟨%hZ, HSI⟩
    imodintro
    isplitr
    · ipureintro; exact ⟨A, hA', hZ⟩
    · iexact HSI
  · intro s h hz
    exact ⟨fun c => ⟨fun w => by simpa only [RDat.familyOf_self] using (h c).1 w, (h c).2.2⟩, hz⟩

end Cert.Rvq
-- ==== Proof.RunB.lean ====
/- The body's run at a point that is neither a first nor a last level. -/
module
public import proofs.«01_k».proof.Proof.Setup
@[expose] public section
set_option maxRecDepth 16384
set_option maxHeartbeats 1600000
noncomputable section
namespace Cert.Rvq
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ
variable (c : Dev nD) (i : grid0.Coords)
  (arg2 : Memref sig .tc .vmem S512x512 .f32) (harg2 : arg2.IsWhole)
  (arg3 : Memref sig .tc .vmem S8x2048x512 .f32) (harg3 : arg3.IsWhole)
  (arg4 : Memref sig .tc .vmem S512x512 .f32) (harg4 : arg4.IsWhole)
  (arg5 : Memref sig .tc .vmem S1x8x512 .i32) (harg5 : arg5.IsWhole)
  (arg6 : Memref sig .tc .vmem S1x1 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x2048 .f32) (harg9 : arg9.IsWhole)
  (arg10 : Memref sig .tc .vmem S1x2048 .f32) (harg10 : arg10.IsWhole)
  (arg11 : Memref sig .tc .vmem S8x2048x512 .bf16) (harg11 : arg11.IsWhole)
  (arg12 : Memref sig .tc .smem S1x1 .f32) (harg12 : arg12.IsWhole)
  (x2 : Vec Ideal S512x512 .f32) (x3 : Vec Ideal S8x2048x512 .f32) (x4 : Vec Ideal S512x512 .f32) (x5 : Vec Ideal S1x8x512 .i32) (x6 : Vec Ideal S1x1 .f32) (x7 : Vec Ideal S512x512 .f32) (x8 : Vec Ideal S512x512 .f32) (x9 : Vec Ideal S8x2048 .f32) (x10 : Vec Ideal S1x2048 .f32) (x11 : Vec Ideal S8x2048x512 .bf16) (x12 : Vec Ideal S1x1 .f32)

/-- A level strictly between the first and the last. -/
theorem runB (hc0 : ¬condFirst i) (hc1 : ¬condZero i) (hc2 : ¬condLast i) :
    BodyTo c i arg2 harg2 arg3 harg3 arg4 harg4 arg5 harg5 arg6 harg6 arg7 harg7 arg8 harg8 arg9 harg9 arg10 harg10 arg11 harg11 arg12 harg12
      x2 x3 x4 x5 x6 x7 x8 x9 x10 x11 x12 x4 (idxTo i x3 x9 x10 x7 x5) x6 (resTo i x3 x9 x10 x11 x7) (sumTo i x3 x9 x10 x11 x7 x8) x9 x10 x11 (fun _ => lossTo i x3 x9 x7 (x12 (Shape.Idx.first (by decide)))) := by
  intro E K
  simp only [cc0__rvq_kernel_eq_skeleton]; unfold cc0__rvq_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    delta runB.sl.r runB.sl.r_1 runB.sl.r_2 runB.sl.r_3 runB.sl.r_4 runB.sl.r_5 runB.sl.r_6 runB.sl.r_7 runB.sl.r_8 runB.sl.r_9 runB.sl.r_10 runB.sl.v67 runB.sl.v101
    simp only [read_store, read_none, load_known, ld_io, ld_one, put_one, resTo, sumTo, idxTo, lossTo, halves, cbAt, csAt, loAt, half0, half1]
  isplitl [H6]
  · iexists _; isplitr; swap; · iexact H6
    ipureintro
    exact harg6.read_unread _
  isplitl [H7]
  · iexists _; isplitr; swap; · iexact H7
    ipureintro
    delta runB.sl.r runB.sl.r_1 runB.sl.r_2 runB.sl.r_3 runB.sl.r_4 runB.sl.r_5 runB.sl.r_6 runB.sl.r_7 runB.sl.r_8 runB.sl.r_9 runB.sl.r_10 runB.sl.v67 runB.sl.v101
    simp only [read_store, read_none, load_known, ld_io, ld_one, put_one, resTo, sumTo, idxTo, lossTo, halves, cbAt, csAt, loAt, half0, half1]
  isplitl [H8]
  · iexists _; isplitr; swap; · iexact H8
    ipureintro
    delta runB.sl.r runB.sl.r_1 runB.sl.r_2 runB.sl.r_3 runB.sl.r_4 runB.sl.r_5 runB.sl.r_6 runB.sl.r_7 runB.sl.r_8 runB.sl.r_9 runB.sl.r_10 runB.sl.v67 runB.sl.v101
    simp only [read_store, read_none, load_known, ld_io, ld_one, put_one, resTo, sumTo, idxTo, lossTo, halves, cbAt, csAt, loAt, half0, half1]
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  · iexists _; isplitr; swap; · iexact H12
    ipureintro
    delta runB.sl.r runB.sl.r_1 runB.sl.r_2 runB.sl.r_3 runB.sl.r_4 runB.sl.r_5 runB.sl.r_6 runB.sl.r_7 runB.sl.r_8 runB.sl.r_9 runB.sl.r_10 runB.sl.v67 runB.sl.v101
    simp only [read_store, read_none, load_known, ld_io, ld_one, resTo, sumTo, idxTo, lossTo, halves, cbAt, csAt, loAt, half0, half1]
    refine (put_one _ _).trans ?_
    funext x
    exact congrArg (k0_pay1 _) (congrFun (ld_one x12 _) _)

end Cert.Rvq
-- ==== Proof.RunC.lean ====
/- The body's run at a last level. -/
module
public import proofs.«01_k».proof.Proof.RunB
@[expose] public section
set_option maxRecDepth 16384
set_option maxHeartbeats 1600000
noncomputable section
namespace Cert.Rvq
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ
variable (c : Dev nD) (i : grid0.Coords)
  (arg2 : Memref sig .tc .vmem S512x512 .f32) (harg2 : arg2.IsWhole)
  (arg3 : Memref sig .tc .vmem S8x2048x512 .f32) (harg3 : arg3.IsWhole)
  (arg4 : Memref sig .tc .vmem S512x512 .f32) (harg4 : arg4.IsWhole)
  (arg5 : Memref sig .tc .vmem S1x8x512 .i32) (harg5 : arg5.IsWhole)
  (arg6 : Memref sig .tc .vmem S1x1 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x2048 .f32) (harg9 : arg9.IsWhole)
  (arg10 : Memref sig .tc .vmem S1x2048 .f32) (harg10 : arg10.IsWhole)
  (arg11 : Memref sig .tc .vmem S8x2048x512 .bf16) (harg11 : arg11.IsWhole)
  (arg12 : Memref sig .tc .smem S1x1 .f32) (harg12 : arg12.IsWhole)
  (x2 : Vec Ideal S512x512 .f32) (x3 : Vec Ideal S8x2048x512 .f32) (x4 : Vec Ideal S512x512 .f32) (x5 : Vec Ideal S1x8x512 .i32) (x6 : Vec Ideal S1x1 .f32) (x7 : Vec Ideal S512x512 .f32) (x8 : Vec Ideal S512x512 .f32) (x9 : Vec Ideal S8x2048 .f32) (x10 : Vec Ideal S1x2048 .f32) (x11 : Vec Ideal S8x2048x512 .bf16) (x12 : Vec Ideal S1x1 .f32)

/-- The last level: the outputs are stored as well. -/
theorem runC (hc0 : ¬condFirst i) (hc1 : ¬condZero i) (hc2 : condLast i) :
    BodyTo c i arg2 harg2 arg3 harg3 arg4 harg4 arg5 harg5 arg6 harg6 arg7 harg7 arg8 harg8 arg9 harg9 arg10 harg10 arg11 harg11 arg12 harg12
      x2 x3 x4 x5 x6 x7 x8 x9 x10 x11 x12
      (k0_pay2 x2 (sumTo i x3 x9 x10 x11 x7 x8))
      (idxTo i x3 x9 x10 x7 x5)
      (fun _ => lossTo i x3 x9 x7 (x12 (Shape.Idx.first (by decide))))
      (resTo i x3 x9 x10 x11 x7)
      (sumTo i x3 x9 x10 x11 x7 x8)
      x9
      x10
      x11
      (fun _ => lossTo i x3 x9 x7 (x12 (Shape.Idx.first (by decide)))) := by
  intro E K
  simp only [cc0__rvq_kernel_eq_skeleton]; unfold cc0__rvq_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.v67 runC.sl.v101 runC.sl.v126 runC.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    exact (put_tile _ _).trans (congrArg (k0_pay2 x2) (halves_over _ _ _ _))
  isplitl [H5]
  · iexists _; isplitr; swap; · iexact H5
    ipureintro
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.v67 runC.sl.v101 runC.sl.v126 runC.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    trace_state
  isplitl [H6]
  · iexists _; isplitr; swap; · iexact H6
    ipureintro
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.v67 runC.sl.v101 runC.sl.v126 runC.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    refine (put_one _ _).trans ?_
    exact funext fun x => congrArg (k0_pay1 _) (congrFun (ld_one x12 _) _)
  isplitl [H7]
  · iexists _; isplitr; swap; · iexact H7
    ipureintro
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.v67 runC.sl.v101 runC.sl.v126 runC.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    trace_state
  isplitl [H8]
  · iexists _; isplitr; swap; · iexact H8
    ipureintro
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.v67 runC.sl.v101 runC.sl.v126 runC.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    trace_state
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  · iexists _; isplitr; swap; · iexact H12
    ipureintro
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.v67 runC.sl.v101 runC.sl.v126 runC.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    refine (put_one _ _).trans ?_
    exact funext fun x => congrArg (k0_pay1 _) (congrFun (ld_one x12 _) _)

end Cert.Rvq
-- ==== Proof.RunD.lean ====
/- The body's run at a first level of a later tile. -/
module
public import proofs.«01_k».proof.Proof.RunC
@[expose] public section
set_option maxRecDepth 16384
set_option maxHeartbeats 1600000
noncomputable section
namespace Cert.Rvq
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ
variable (c : Dev nD) (i : grid0.Coords)
  (arg2 : Memref sig .tc .vmem S512x512 .f32) (harg2 : arg2.IsWhole)
  (arg3 : Memref sig .tc .vmem S8x2048x512 .f32) (harg3 : arg3.IsWhole)
  (arg4 : Memref sig .tc .vmem S512x512 .f32) (harg4 : arg4.IsWhole)
  (arg5 : Memref sig .tc .vmem S1x8x512 .i32) (harg5 : arg5.IsWhole)
  (arg6 : Memref sig .tc .vmem S1x1 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x2048 .f32) (harg9 : arg9.IsWhole)
  (arg10 : Memref sig .tc .vmem S1x2048 .f32) (harg10 : arg10.IsWhole)
  (arg11 : Memref sig .tc .vmem S8x2048x512 .bf16) (harg11 : arg11.IsWhole)
  (arg12 : Memref sig .tc .smem S1x1 .f32) (harg12 : arg12.IsWhole)
  (x2 : Vec Ideal S512x512 .f32) (x3 : Vec Ideal S8x2048x512 .f32) (x4 : Vec Ideal S512x512 .f32) (x5 : Vec Ideal S1x8x512 .i32) (x6 : Vec Ideal S1x1 .f32) (x7 : Vec Ideal S512x512 .f32) (x8 : Vec Ideal S512x512 .f32) (x9 : Vec Ideal S8x2048 .f32) (x10 : Vec Ideal S1x2048 .f32) (x11 : Vec Ideal S8x2048x512 .bf16) (x12 : Vec Ideal S1x1 .f32)

/-- The first level of a later tile: the residual starts as the tile, the sum as zero. -/
theorem runD (hc0 : ¬condFirst i) (hc1 : condZero i) (hc2 : ¬condLast i) :
    BodyTo c i arg2 harg2 arg3 harg3 arg4 harg4 arg5 harg5 arg6 harg6 arg7 harg7 arg8 harg8 arg9 harg9 arg10 harg10 arg11 harg11 arg12 harg12
      x2 x3 x4 x5 x6 x7 x8 x9 x10 x11 x12
      x4
      (idxTo i x3 x9 x10 (k0_pay7 x2) x5)
      x6
      (resTo i x3 x9 x10 x11 (k0_pay7 x2))
      (sumTo i x3 x9 x10 x11 (k0_pay7 x2) (k0_pay8 (F := Ideal)))
      x9
      x10
      x11
      (fun _ => lossTo i x3 x9 (k0_pay7 x2) (x12 (Shape.Idx.first (by decide)))) := by
  intro E K
  simp only [cc0__rvq_kernel_eq_skeleton]; unfold cc0__rvq_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    delta runD.sl.r runD.sl.r_1 runD.sl.r_2 runD.sl.r_3 runD.sl.r_4 runD.sl.r_5 runD.sl.r_6 runD.sl.r_7 runD.sl.r_8 runD.sl.r_9 runD.sl.v67 runD.sl.v101 runD.sl.v17 runD.sl.v51 runD.sl.H7_1 runD.sl.H7_2 runD.sl.H8_1 runD.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [ld_put_low]
  isplitl [H6]
  · iexists _; isplitr; swap; · iexact H6
    ipureintro
    exact harg6.read_unread _
  isplitl [H7]
  · iexists _; isplitr; swap; · iexact H7
    ipureintro
    delta runD.sl.r runD.sl.r_1 runD.sl.r_2 runD.sl.r_3 runD.sl.r_4 runD.sl.r_5 runD.sl.r_6 runD.sl.r_7 runD.sl.r_8 runD.sl.r_9 runD.sl.v67 runD.sl.v101 runD.sl.v17 runD.sl.v51 runD.sl.H7_1 runD.sl.H7_2 runD.sl.H8_1 runD.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [ld_put_low]
  isplitl [H8]
  · iexists _; isplitr; swap; · iexact H8
    ipureintro
    delta runD.sl.r runD.sl.r_1 runD.sl.r_2 runD.sl.r_3 runD.sl.r_4 runD.sl.r_5 runD.sl.r_6 runD.sl.r_7 runD.sl.r_8 runD.sl.r_9 runD.sl.v67 runD.sl.v101 runD.sl.v17 runD.sl.v51 runD.sl.H7_1 runD.sl.H7_2 runD.sl.H8_1 runD.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [ld_put_low]
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  · iexists _; isplitr; swap; · iexact H12
    ipureintro
    delta runD.sl.r runD.sl.r_1 runD.sl.r_2 runD.sl.r_3 runD.sl.r_4 runD.sl.r_5 runD.sl.r_6 runD.sl.r_7 runD.sl.r_8 runD.sl.r_9 runD.sl.v67 runD.sl.v101 runD.sl.v17 runD.sl.v51 runD.sl.H7_1 runD.sl.H7_2 runD.sl.H8_1 runD.sl.H8_2
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [ld_put_low]
    refine (put_one _ _).trans ?_
    exact funext fun x => congrArg (k0_pay1 _) (congrFun (ld_one x12 _) _)

end Cert.Rvq
-- ==== Proof.RunA.lean ====
/- The body's run at the first point. -/
module
public import proofs.«01_k».proof.Proof.RunD
@[expose] public section
set_option maxRecDepth 16384
set_option maxHeartbeats 1600000
noncomputable section
namespace Cert.Rvq
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ
variable (c : Dev nD) (i : grid0.Coords)
  (arg2 : Memref sig .tc .vmem S512x512 .f32) (harg2 : arg2.IsWhole)
  (arg3 : Memref sig .tc .vmem S8x2048x512 .f32) (harg3 : arg3.IsWhole)
  (arg4 : Memref sig .tc .vmem S512x512 .f32) (harg4 : arg4.IsWhole)
  (arg5 : Memref sig .tc .vmem S1x8x512 .i32) (harg5 : arg5.IsWhole)
  (arg6 : Memref sig .tc .vmem S1x1 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x2048 .f32) (harg9 : arg9.IsWhole)
  (arg10 : Memref sig .tc .vmem S1x2048 .f32) (harg10 : arg10.IsWhole)
  (arg11 : Memref sig .tc .vmem S8x2048x512 .bf16) (harg11 : arg11.IsWhole)
  (arg12 : Memref sig .tc .smem S1x1 .f32) (harg12 : arg12.IsWhole)
  (x2 : Vec Ideal S512x512 .f32) (x3 : Vec Ideal S8x2048x512 .f32) (x4 : Vec Ideal S512x512 .f32) (x5 : Vec Ideal S1x8x512 .i32) (x6 : Vec Ideal S1x1 .f32) (x7 : Vec Ideal S512x512 .f32) (x8 : Vec Ideal S512x512 .f32) (x9 : Vec Ideal S8x2048 .f32) (x10 : Vec Ideal S1x2048 .f32) (x11 : Vec Ideal S8x2048x512 .bf16) (x12 : Vec Ideal S1x1 .f32)

/-- The first point: the norms, the positions and the rounding remainders are filled first. -/
theorem runA (hc0 : condFirst i) (hc1 : condZero i) (hc2 : ¬condLast i) :
    BodyTo c i arg2 harg2 arg3 harg3 arg4 harg4 arg5 harg5 arg6 harg6 arg7 harg7 arg8 harg8 arg9 harg9 arg10 harg10 arg11 harg11 arg12 harg12
      x2 x3 x4 x5 x6 x7 x8 x9 x10 x11 x12
      x4
      (idxTo i x3 (k0_pay4 x3) (k0_pay6 (F := Ideal)) (k0_pay7 x2) x5)
      x6
      (resTo i x3 (k0_pay4 x3) (k0_pay6 (F := Ideal)) (k0_pay5 x3) (k0_pay7 x2))
      (sumTo i x3 (k0_pay4 x3) (k0_pay6 (F := Ideal)) (k0_pay5 x3) (k0_pay7 x2) (k0_pay8 (F := Ideal)))
      (k0_pay4 x3)
      (k0_pay6 (F := Ideal))
      (k0_pay5 x3)
      (fun _ => lossTo i x3 (k0_pay4 x3) (k0_pay7 x2) (FloatOps.ofBits (F := Ideal) FTy.f32 0#32)) := by
  intro E K
  simp only [cc0__rvq_kernel_eq_skeleton]; unfold cc0__rvq_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    delta runA.sl.r runA.sl.r_1 runA.sl.r_2 runA.sl.r_3 runA.sl.r_4 runA.sl.r_5 runA.sl.r_6 runA.sl.r_7 runA.sl.r_8 runA.sl.v16 runA.sl.v67 runA.sl.v101 runA.sl.v17 runA.sl.v51 runA.sl.H7_1 runA.sl.H7_2 runA.sl.H8_1 runA.sl.H8_2 runA.sl.H9_1 runA.sl.H10_1 runA.sl.H11_1 runA.sl.cst_64
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [put_norms]
    repeat rw [put_io]
    repeat rw [put_lo]
    repeat rw [ld_put_low]
  isplitl [H6]
  · iexists _; isplitr; swap; · iexact H6
    ipureintro
    exact harg6.read_unread _
  isplitl [H7]
  · iexists _; isplitr; swap; · iexact H7
    ipureintro
    delta runA.sl.r runA.sl.r_1 runA.sl.r_2 runA.sl.r_3 runA.sl.r_4 runA.sl.r_5 runA.sl.r_6 runA.sl.r_7 runA.sl.r_8 runA.sl.v16 runA.sl.v67 runA.sl.v101 runA.sl.v17 runA.sl.v51 runA.sl.H7_1 runA.sl.H7_2 runA.sl.H8_1 runA.sl.H8_2 runA.sl.H9_1 runA.sl.H10_1 runA.sl.H11_1 runA.sl.cst_64
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [put_norms]
    repeat rw [put_io]
    repeat rw [put_lo]
    repeat rw [ld_put_low]
  isplitl [H8]
  · iexists _; isplitr; swap; · iexact H8
    ipureintro
    delta runA.sl.r runA.sl.r_1 runA.sl.r_2 runA.sl.r_3 runA.sl.r_4 runA.sl.r_5 runA.sl.r_6 runA.sl.r_7 runA.sl.r_8 runA.sl.v16 runA.sl.v67 runA.sl.v101 runA.sl.v17 runA.sl.v51 runA.sl.H7_1 runA.sl.H7_2 runA.sl.H8_1 runA.sl.H8_2 runA.sl.H9_1 runA.sl.H10_1 runA.sl.H11_1 runA.sl.cst_64
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [put_norms]
    repeat rw [put_io]
    repeat rw [put_lo]
    repeat rw [ld_put_low]
  isplitl [H9]
  · iexists _; isplitr; swap; · iexact H9
    ipureintro
    delta runA.sl.r runA.sl.r_1 runA.sl.r_2 runA.sl.r_3 runA.sl.r_4 runA.sl.r_5 runA.sl.r_6 runA.sl.r_7 runA.sl.r_8 runA.sl.v16 runA.sl.v67 runA.sl.v101 runA.sl.v17 runA.sl.v51 runA.sl.H7_1 runA.sl.H7_2 runA.sl.H8_1 runA.sl.H8_2 runA.sl.H9_1 runA.sl.H10_1 runA.sl.H11_1 runA.sl.cst_64
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [put_norms]
    repeat rw [put_io]
    repeat rw [put_lo]
    repeat rw [ld_put_low]
  isplitl [H10]
  · iexists _; isplitr; swap; · iexact H10
    ipureintro
    delta runA.sl.r runA.sl.r_1 runA.sl.r_2 runA.sl.r_3 runA.sl.r_4 runA.sl.r_5 runA.sl.r_6 runA.sl.r_7 runA.sl.r_8 runA.sl.v16 runA.sl.v67 runA.sl.v101 runA.sl.v17 runA.sl.v51 runA.sl.H7_1 runA.sl.H7_2 runA.sl.H8_1 runA.sl.H8_2 runA.sl.H9_1 runA.sl.H10_1 runA.sl.H11_1 runA.sl.cst_64
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [put_norms]
    repeat rw [put_io]
    repeat rw [put_lo]
    repeat rw [ld_put_low]
  isplitl [H11]
  · iexists _; isplitr; swap; · iexact H11
    ipureintro
    delta runA.sl.r runA.sl.r_1 runA.sl.r_2 runA.sl.r_3 runA.sl.r_4 runA.sl.r_5 runA.sl.r_6 runA.sl.r_7 runA.sl.r_8 runA.sl.v16 runA.sl.v67 runA.sl.v101 runA.sl.v17 runA.sl.v51 runA.sl.H7_1 runA.sl.H7_2 runA.sl.H8_1 runA.sl.H8_2 runA.sl.H9_1 runA.sl.H10_1 runA.sl.H11_1 runA.sl.cst_64
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [put_norms]
    repeat rw [put_io]
    repeat rw [put_lo]
    repeat rw [ld_put_low]
  · iexists _; isplitr; swap; · iexact H12
    ipureintro
    delta runA.sl.r runA.sl.r_1 runA.sl.r_2 runA.sl.r_3 runA.sl.r_4 runA.sl.r_5 runA.sl.r_6 runA.sl.r_7 runA.sl.r_8 runA.sl.v16 runA.sl.v67 runA.sl.v101 runA.sl.v17 runA.sl.v51 runA.sl.H7_1 runA.sl.H7_2 runA.sl.H8_1 runA.sl.H8_2 runA.sl.H9_1 runA.sl.H10_1 runA.sl.H11_1 runA.sl.cst_64
    simp only [read_store, read_none, load_known, load_cov, load_after, ld_io, ld_one, ld_tile, ld_books, put_io, put_tile, put_norms, put_lo, ld_put_low, resTo, sumTo, idxTo, lossTo, halves, cbAt, csAt, loAt, half0, half1]
    repeat rw [put_tile]
    repeat rw [put_norms]
    repeat rw [put_io]
    repeat rw [put_lo]
    repeat rw [ld_put_low]
    refine (put_one _ _).trans ?_
    rfl

end Cert.Rvq
-- ==== Proof.Spec.lean ====
/- Residual vector quantization over the reals: the distance of a row to a codeword, the nearest codeword (the first of
   them), the residual, the quantized sum and the loss, level by level. -/
module

public import Mathlib.Algebra.BigOperators.Ring.Finset
public import Mathlib.Data.Finset.Max
public import Mathlib.Data.Finset.Fold
public import Mathlib.Data.Finset.Lattice.Fold
public import Mathlib.Order.Interval.Finset.Fin
public import Mathlib.Data.EReal.Basic
public import Mathlib.Data.EReal.Operations
public import Mathlib.Algebra.BigOperators.Group.Finset.Basic
public import Mathlib.Algebra.Order.BigOperators.Group.Finset
public import Mathlib.Tactic.Ring
public import Mathlib.Tactic.Linarith
public import Mathlib.Tactic.Push

@[expose] public section

noncomputable section

namespace Cert.Rvq

/-- A row of 512 numbers. -/
abbrev Row := Fin 512 → ℝ
/-- A codebook: 2048 rows. -/
abbrev Book := Fin 2048 → Row

/-- The squared distance of a row to codeword `k`, spelt as both programs compute it. -/
def dist (r : Row) (b : Book) (k : Fin 2048) : ℝ :=
  ((∑ d, r d * r d) - 2 * ∑ d, r d * b k d) + ∑ d, b k d * b k d

/-- The distance is the sum of the squared differences. -/
theorem dist_eq (r : Row) (b : Book) (k : Fin 2048) : dist r b k = ∑ d, (r d - b k d) * (r d - b k d) := by
  unfold dist
  rw [Finset.mul_sum, ← Finset.sum_sub_distrib, ← Finset.sum_add_distrib]
  exact Finset.sum_congr rfl fun d _ => by ring

/-- The codewords that no other is nearer than. -/
def nearest (r : Row) (b : Book) : Finset (Fin 2048) := Finset.univ.filter fun k => ∀ j, dist r b k ≤ dist r b j

/-- Some codeword is nearest. -/
theorem nearest_nonempty (r : Row) (b : Book) : (nearest r b).Nonempty := by
  obtain ⟨k, -, hk⟩ := Finset.exists_min_image (Finset.univ : Finset (Fin 2048)) (dist r b) ⟨0, Finset.mem_univ _⟩
  exact ⟨k, Finset.mem_filter.mpr ⟨Finset.mem_univ _, fun j => hk j (Finset.mem_univ _)⟩⟩

/-- The first of the nearest codewords. -/
def best (r : Row) (b : Book) : Fin 2048 := (nearest r b).min' (nearest_nonempty r b)

/-- No codeword is nearer than the best. -/
theorem best_le (r : Row) (b : Book) (j : Fin 2048) : dist r b (best r b) ≤ dist r b j :=
  (Finset.mem_filter.mp ((nearest r b).min'_mem (nearest_nonempty r b))).2 j

/-- The best comes before any other codeword at its distance. -/
theorem best_first (r : Row) (b : Book) (k : Fin 2048) (h : dist r b k = dist r b (best r b)) : best r b ≤ k :=
  (nearest r b).min'_le k (Finset.mem_filter.mpr ⟨Finset.mem_univ _, fun j => h.trans_le (best_le r b j)⟩)

/-- Codewords before the best are farther. -/
theorem best_lt (r : Row) (b : Book) (k : Fin 2048) (h : k < best r b) : dist r b (best r b) < dist r b k :=
  lt_of_le_of_ne (best_le r b k) fun e => absurd (best_first r b k e.symm) (not_le.mpr h)

variable (x : Row) (cb : ℕ → Book)

/-- The residual before level `l`. -/
def resid : ℕ → Row
  | 0 => x
  | l + 1 => fun d => resid l d - cb l (best (resid l) (cb l)) d

/-- The codeword chosen at level `l`. -/
def pick (l : ℕ) : Fin 2048 := best (resid x cb l) (cb l)

/-- The sum of the codewords chosen before level `l`. -/
def qsum : ℕ → Row
  | 0 => fun _ => 0
  | l + 1 => fun d => qsum l d + cb l (pick x cb l) d

/-- The squared distance kept at level `l`. -/
def err (l : ℕ) : ℝ := dist (resid x cb l) (cb l) (pick x cb l)

/-- The squared distance kept is the sum of squares of the next residual. -/
theorem err_eq (l : ℕ) : err x cb l = ∑ d, (resid x cb l d - cb l (pick x cb l) d) * (resid x cb l d - cb l (pick x cb l) d) :=
  dist_eq _ _ _

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The least of finitely many values that some index attains. -/
theorem fold_min_eq {ι : Type*} (s : Finset ι) (f : ι → EReal) (a : ι) (ha : a ∈ s) (h : ∀ i ∈ s, f a ≤ f i) :
    s.fold min ⊤ f = f a :=
  le_antisymm ((Finset.fold_min_le _).mpr (Or.inr ⟨a, ha, le_rfl⟩)) (Finset.le_fold_min _ |>.mpr ⟨le_top, h⟩)

end Cert.Rvq
-- ==== Proof.Payload.lean ====
/- What the kernel's arithmetic on one half of a tile is, entry by entry, over the extended reals. -/
module

public import proofs.«01_k».proof.Proof.Setup
public import proofs.«01_k».proof.Proof.Spec
public import Idealize.ShloMosaic.Lib.Pointwise

@[expose] public section

set_option maxRecDepth 16384

noncomputable section

namespace Cert.Rvq

open Cert.KernelIdeal Cert.KernelIdeal.Gen
open Idealize.ShloMosaic Idealize.ShloMosaic.Tactic

/-- The constant two. -/
theorem two_bits : Ideal.ofBits FTy.f32 1073741824#32 = ((2 : ℝ) : EReal) := by
  simp [Ideal.ofBits, Ideal.ieee, -EReal.coe_mul]; norm_num

/-- The constant one codeword past the last. -/
theorem past_bits : Ideal.ofBits FTy.f32 1157627904#32 = ((2048 : ℝ) : EReal) := by
  simp [Ideal.ofBits, Ideal.ieee, -EReal.coe_mul]; norm_num

/-- The constant that starts a minimum. -/
theorem top_bits : Ideal.ofBits FTy.f32 2139095040#32 = ⊤ := by
  simp [Ideal.ofBits, Ideal.ieee, -EReal.coe_mul]

/-- A truth value converted to a number is one or zero. -/
theorem bit_number (q : Prop) [Decidable q] :
    FloatOps.sitofp (F := Ideal) FTy.f32 (BitVec.setWidth 32 (BitVec.ofBool (decide q))) = if q then (1 : EReal) else 0 := by
  by_cases h : q
  · rw [decide_eq_true h, if_pos h]
    show (((1#32).toInt : ℝ) : EReal) = 1
    simp
  · rw [decide_eq_false h, if_neg h]
    show (((0#32).toInt : ℝ) : EReal) = 0
    simp

/-- The distance of row `p` to codeword `k`. -/
theorem pay11_at (b : Vec Ideal S1x2048x512 .f32) (c : Vec Ideal S1x2048 .f32) (r : Vec Ideal S256x512 .f32) (p : Fin 256) (k : Fin 2048) :
    k0_pay11 b c r (ix2 p k)
      = ((∑ d : Fin 512, r (ix2 p d) * r (ix2 p d)) - ((2 : ℝ) : EReal) * ∑ d : Fin 512, r (ix2 p d) * b (ix3 0 k d)) + c (ix2 0 k) := by
  pointwise [k0_pay11, k0_pay9]
  rw [two_bits]

/-- The least distance of row `p`. -/
theorem pay12_at (b : Vec Ideal S1x2048x512 .f32) (c : Vec Ideal S1x2048 .f32) (r : Vec Ideal S256x512 .f32) (p : Fin 256) :
    k0_pay12 b c r (ix2 p 0) = Finset.univ.fold min ⊤ fun k : Fin 2048 => k0_pay11 b c r (ix2 p k) := by
  pointwise [k0_pay12]
  rw [top_bits]

/-- The number of each codeword at the least distance; of the others, a number past the last. -/
theorem pay13_at (b : Vec Ideal S1x2048x512 .f32) (c : Vec Ideal S1x2048 .f32) (io : Vec Ideal S1x2048 .f32) (r : Vec Ideal S256x512 .f32) (p : Fin 256) (k : Fin 2048) :
    k0_pay13 b c io r (ix2 p k) = if k0_pay11 b c r (ix2 p k) = k0_pay12 b c r (ix2 p 0) then io (ix2 0 k) else ((2048 : ℝ) : EReal) := by
  pointwise [k0_pay13]
  rw [past_bits]

/-- The least entry of a row. -/
theorem pay14_at (v : FVec Ideal S256x2048 .f32) (p : Fin 256) :
    k0_pay14 v (ix2 p 0) = Finset.univ.fold min ⊤ fun k : Fin 2048 => v (ix2 p k) := by
  pointwise [k0_pay14]
  rw [top_bits]

/-- The chosen row of the table, as a product with a row of zeros and one one. -/
theorem pay15_at (b : Vec Ideal S1x2048x512 .f32) (lo : Vec Ideal S1x2048x512 .bf16) (io : Vec Ideal S1x2048 .f32) (v : FVec Ideal S256x2048 .f32) (p : Fin 256) (d : Fin 512) :
    k0_pay15 (k0_pay9 b) (k0_pay10 lo) io v (ix2 p d)
      = (∑ k : Fin 2048, (if io (ix2 0 k) = k0_pay14 v (ix2 p 0) then 1 else 0) * b (ix3 0 k d))
        + ∑ k : Fin 2048, (if io (ix2 0 k) = k0_pay14 v (ix2 p 0) then 1 else 0) * lo (ix3 0 k d) := by
  pointwise [k0_pay15, k0_pay9, k0_pay10]
  simp only [bit_number]

/-- The sum of a column. -/
theorem pay18_at (v : FVec Ideal S256x1 .f32) : k0_pay18 v = ∑ p : Fin 256, v (ix2 p 0) := by
  pointwise [k0_pay18]
  simp only [Fin.sum_univ_one]

/-- The index written for row `p`. -/
theorem pay19_at (v : FVec Ideal S256x2048 .f32) (p : Fin 256) :
    k0_pay19 v (ix3 0 0 p) = FloatOps.fptosi 32 (k0_pay14 v (ix2 p 0)) := by
  pointwise [k0_pay19]

/-- The index of a codeword, read off its number. -/
theorem fptosi_nat (k : Fin 2048) : FloatOps.fptosi (F := Ideal) (φ := .f32) 32 (((k.val : ℝ) : EReal)) = BitVec.ofNat 32 k.val := by
  show Ideal.fptosi 32 (((k.val : ℝ) : EReal)) = _
  have hk := k.isLt
  rw [Ideal.fptosi, Ideal.toIntClamped_coe, if_pos (Nat.cast_nonneg _), Int.floor_natCast]
  rw [min_eq_right (by norm_num; omega), max_eq_right (by omega)]
  rfl

/-- A codeword's number is below the one past the last. -/
theorem number_le (k : Fin 2048) : ((k.val : ℝ) : EReal) ≤ ((2048 : ℝ) : EReal) := by
  have h : k.val ≤ 2048 := k.isLt.le
  have h' : (k.val : ℝ) ≤ 2048 := by exact_mod_cast h
  exact EReal.coe_le_coe_iff.mpr h'

/-- Codewords' numbers are ordered as the codewords. -/
theorem number_mono {j k : Fin 2048} (h : j ≤ k) : ((j.val : ℝ) : EReal) ≤ ((k.val : ℝ) : EReal) :=
  EReal.coe_le_coe_iff.mpr (Nat.cast_le.mpr h)

section Finite
variable {b : Vec Ideal S1x2048x512 .f32} {c : Vec Ideal S1x2048 .f32} {lo : Vec Ideal S1x2048x512 .bf16} {io : Vec Ideal S1x2048 .f32}
  {r : Vec Ideal S256x512 .f32} {B : Book} {R : Fin 256 → Row}

/-- With real entries, the distance is the real one. -/
theorem pay11_real (hb : ∀ k d, b (ix3 0 k d) = ((B k d : ℝ) : EReal)) (hc : ∀ k, c (ix2 0 k) = ((∑ d, B k d * B k d : ℝ) : EReal))
    (hr : ∀ p d, r (ix2 p d) = ((R p d : ℝ) : EReal)) (p : Fin 256) (k : Fin 2048) :
    k0_pay11 b c r (ix2 p k) = ((dist (R p) B k : ℝ) : EReal) := by
  rw [pay11_at, hc]
  simp only [hr, hb, ← EReal.coe_mul, ← coe_sum, ← EReal.coe_sub, ← EReal.coe_add]
  rfl

/-- With real entries, the least distance is the best codeword's. -/
theorem pay12_real (hb : ∀ k d, b (ix3 0 k d) = ((B k d : ℝ) : EReal)) (hc : ∀ k, c (ix2 0 k) = ((∑ d, B k d * B k d : ℝ) : EReal))
    (hr : ∀ p d, r (ix2 p d) = ((R p d : ℝ) : EReal)) (p : Fin 256) :
    k0_pay12 b c r (ix2 p 0) = ((dist (R p) B (best (R p) B) : ℝ) : EReal) := by
  rw [pay12_at]
  simp only [pay11_real hb hc hr]
  exact fold_min_eq _ _ (best (R p) B) (Finset.mem_univ _) fun i _ => EReal.coe_le_coe_iff.mpr (best_le _ _ _)

/-- With real entries, the least number written for a row is the best codeword's. -/
theorem pay14_real (hb : ∀ k d, b (ix3 0 k d) = ((B k d : ℝ) : EReal)) (hc : ∀ k, c (ix2 0 k) = ((∑ d, B k d * B k d : ℝ) : EReal))
    (hio : ∀ k : Fin 2048, io (ix2 0 k) = ((k.val : ℝ) : EReal))
    (hr : ∀ p d, r (ix2 p d) = ((R p d : ℝ) : EReal)) (p : Fin 256) :
    k0_pay14 (k0_pay13 b c io r) (ix2 p 0) = (((best (R p) B).val : ℝ) : EReal) := by
  have hat : k0_pay13 b c io r (ix2 p (best (R p) B)) = (((best (R p) B).val : ℝ) : EReal) := by
    rw [pay13_at, pay11_real hb hc hr, pay12_real hb hc hr, if_pos rfl, hio]
  rw [pay14_at, ← hat]
  refine fold_min_eq _ (fun k => k0_pay13 b c io r (ix2 p k)) (best (R p) B) (Finset.mem_univ _) fun k _ => ?_
  show k0_pay13 b c io r (ix2 p (best (R p) B)) ≤ k0_pay13 b c io r (ix2 p k)
  rw [hat, pay13_at, pay11_real hb hc hr, pay12_real hb hc hr, hio]
  split
  · next h => exact number_mono (best_first _ _ _ (EReal.coe_eq_coe_iff.mp h))
  · next h => exact number_le _

/-- With real entries, the row taken is the best codeword. -/
theorem pay15_real (hb : ∀ k d, b (ix3 0 k d) = ((B k d : ℝ) : EReal)) (hc : ∀ k, c (ix2 0 k) = ((∑ d, B k d * B k d : ℝ) : EReal))
    (hio : ∀ k : Fin 2048, io (ix2 0 k) = ((k.val : ℝ) : EReal)) (hlo : ∀ k d, lo (ix3 0 k d) = (0 : EReal))
    (hr : ∀ p d, r (ix2 p d) = ((R p d : ℝ) : EReal)) (p : Fin 256) (d : Fin 512) :
    k0_pay15 (k0_pay9 b) (k0_pay10 lo) io (k0_pay13 b c io r) (ix2 p d) = ((B (best (R p) B) d : ℝ) : EReal) := by
  have hone : ∀ k : Fin 2048, ((k.val : ℝ) : EReal) = (((best (R p) B).val : ℝ) : EReal) ↔ k = best (R p) B := fun k => by
    rw [EReal.coe_eq_coe_iff, Nat.cast_inj, Fin.ext_iff]
  rw [pay15_at, pay14_real hb hc hio hr]
  simp only [hio, hone, hb, hlo, mul_zero, Finset.sum_const_zero, add_zero, ite_mul, one_mul, zero_mul, Finset.sum_ite_eq',
    Finset.mem_univ, if_true]

/-- With real entries, the index written is the best codeword's. -/
theorem pay19_real (hb : ∀ k d, b (ix3 0 k d) = ((B k d : ℝ) : EReal)) (hc : ∀ k, c (ix2 0 k) = ((∑ d, B k d * B k d : ℝ) : EReal))
    (hio : ∀ k : Fin 2048, io (ix2 0 k) = ((k.val : ℝ) : EReal))
    (hr : ∀ p d, r (ix2 p d) = ((R p d : ℝ) : EReal)) (p : Fin 256) :
    k0_pay19 (k0_pay13 b c io r) (ix3 0 0 p) = BitVec.ofNat 32 (best (R p) B).val := by
  rw [pay19_at, pay14_real hb hc hio hr, fptosi_nat]

/-- With real entries, the sum of the least distances. -/
theorem pay18_real (hb : ∀ k d, b (ix3 0 k d) = ((B k d : ℝ) : EReal)) (hc : ∀ k, c (ix2 0 k) = ((∑ d, B k d * B k d : ℝ) : EReal))
    (hr : ∀ p d, r (ix2 p d) = ((R p d : ℝ) : EReal)) :
    k0_pay18 (k0_pay12 b c r) = ((∑ p, dist (R p) B (best (R p) B) : ℝ) : EReal) := by
  rw [pay18_at, coe_sum]
  exact Finset.sum_congr rfl fun p _ => pay12_real hb hc hr p

end Finite

/-- The squared norm of every codeword. -/
theorem pay4_at (x : Vec Ideal S8x2048x512 .f32) (l : Fin 8) (k : Fin 2048) :
    k0_pay4 x (ix2 l k) = ∑ d : Fin 512, x (ix3 l k d) * x (ix3 l k d) := by
  pointwise [k0_pay4]

/-- What the first part of a codeword leaves of it. -/
theorem pay5_at (x : Vec Ideal S8x2048x512 .f32) (l : Fin 8) (k : Fin 2048) (d : Fin 512) :
    k0_pay5 x (ix3 l k d) = x (ix3 l k d) - x (ix3 l k d) := by
  pointwise [k0_pay5]

/-- The numbers of the codewords. -/
theorem pay6_at (k : Fin 2048) : k0_pay6 (F := Ideal) (ix2 0 k) = ((k.val : ℝ) : EReal) := by
  pointwise [k0_pay6]
  have hk := k.isLt
  show (((BitVec.ofNat 32 k.val).toInt : ℝ) : EReal) = _
  rw [BitVec.toInt_ofNat', Int.bmod_eq_of_le (by omega) (by omega)]
  rfl

/-- The residual starts as the tile of the input. -/
theorem pay7_at (x : Vec Ideal S512x512 .f32) (p : Fin 512) (d : Fin 512) : k0_pay7 x (ix2 p d) = x (ix2 p d) := by
  pointwise [k0_pay7]

/-- The quantized sum starts at zero. -/
theorem pay8_at (p : Fin 512) (d : Fin 512) : k0_pay8 (F := Ideal) (ix2 p d) = 0 := by
  pointwise [k0_pay8]

/-- The tile written: the input and the difference of the quantized sum from it. -/
theorem pay2_at (x : Vec Ideal S512x512 .f32) (q : Vec Ideal S512x512 .f32) (p : Fin 512) (d : Fin 512) :
    k0_pay2 x q (ix2 p d) = x (ix2 p d) + (q (ix2 p d) - x (ix2 p d)) := by
  pointwise [k0_pay2]

end Cert.Rvq
-- ==== Proof.Level.lean ====
/- What one level does to a tile whose entries are real: its residual, its quantized sum, its indices and the loss, row by
   row, in the terms of the mathematics. -/
module

public import proofs.«01_k».proof.Proof.Payload

@[expose] public section

set_option maxRecDepth 16384

noncomputable section

namespace Cert.Rvq

open Cert.KernelIdeal Cert.KernelIdeal.Gen
open Idealize.ShloMosaic Idealize.ShloMosaic.Tactic

/-! ## The second half's arithmetic is the first half's -/

section Same
variable (b : Vec Ideal S1x2048x512 .f32) (c : Vec Ideal S1x2048 .f32) (lo : Vec Ideal S1x2048x512 .bf16) (io : Vec Ideal S1x2048 .f32)
  (r q : Vec Ideal S256x512 .f32) (z : Ideal .f32)

/-- The residual of the upper half: its old value less the codeword taken. -/
theorem pay16_at (v : FVec Ideal S256x2048 .f32) (p : Fin 256) (d : Fin 512) :
    k0_pay16 (k0_pay9 b) (k0_pay10 lo) io r v (ix2 p d) = r (ix2 p d) - k0_pay15 (k0_pay9 b) (k0_pay10 lo) io v (ix2 p d) := by
  pointwise [k0_pay16]
/-- The quantized sum of the upper half: its old value and the codeword taken. -/
theorem pay17_at (v : FVec Ideal S256x2048 .f32) (p : Fin 256) (d : Fin 512) :
    k0_pay17 (k0_pay9 b) (k0_pay10 lo) io v q (ix2 p d) = q (ix2 p d) + k0_pay15 (k0_pay9 b) (k0_pay10 lo) io v (ix2 p d) := by
  pointwise [k0_pay17]
/-- The second half's codewords are taken as the first's. -/
theorem pay24_eq : k0_pay24 (k0_pay9 b) (k0_pay10 lo) c io (k0_pay20 (k0_pay9 b) r)
    = k0_pay15 (k0_pay9 b) (k0_pay10 lo) io (k0_pay13 b c io r) := rfl
/-- The residual of the lower half. -/
theorem pay25_at (p : Fin 256) (d : Fin 512) : k0_pay25 (k0_pay9 b) (k0_pay10 lo) c io r (k0_pay20 (k0_pay9 b) r) (ix2 p d)
    = r (ix2 p d) - k0_pay15 (k0_pay9 b) (k0_pay10 lo) io (k0_pay13 b c io r) (ix2 p d) := by
  rw [← pay24_eq]
  pointwise [k0_pay25]
/-- The quantized sum of the lower half. -/
theorem pay26_at (p : Fin 256) (d : Fin 512) : k0_pay26 (k0_pay9 b) (k0_pay10 lo) c io (k0_pay20 (k0_pay9 b) r) q (ix2 p d)
    = q (ix2 p d) + k0_pay15 (k0_pay9 b) (k0_pay10 lo) io (k0_pay13 b c io r) (ix2 p d) := by
  rw [← pay24_eq]
  pointwise [k0_pay26]
/-- The least distances of the second half are computed as the first's. -/
theorem pay22_eq : k0_pay22 c (k0_pay20 (k0_pay9 b) r) = k0_pay12 b c r := rfl
/-- The sum of squared distances, the second half's added. -/
theorem pay27_at (v : FVec Ideal S256x2048 .f32) : k0_pay27 c z v = z + ∑ p : Fin 256, k0_pay22 c v (ix2 p 0) := by
  pointwise [k0_pay27]
  simp only [Fin.sum_univ_one]
/-- The same, in the first half's terms. -/
theorem pay27_eq : k0_pay27 c z (k0_pay20 (k0_pay9 b) r) = z + k0_pay18 (k0_pay12 b c r) := by
  rw [pay27_at, pay22_eq b, pay18_at]
/-- The indices of the second half are computed as the first's. -/
theorem pay28_eq : k0_pay28 c io (k0_pay20 (k0_pay9 b) r) = k0_pay19 (k0_pay13 b c io r) := rfl

end Same

/-- The weight of a level's squared distances in the loss. -/
theorem weight_bits : Ideal.ofBits FTy.f32 1067450368#32 = ((1.25 : ℝ) : EReal) := by
  simp [Ideal.ofBits, Ideal.ieee, -EReal.coe_mul]; norm_num

/-- The loss grows by the weighted sum of the level's squared distances. -/
theorem pay1_eq (v z : Ideal .f32) : k0_pay1 v z = z + ((1.25 : ℝ) : EReal) * v := by
  rw [← weight_bits]; rfl

/-! ## Reading parts of an array -/

/-- A row of the upper half, in the tile. -/
abbrev up (p : Fin 256) : Fin 512 := Fin.castAdd 256 p
/-- A row of the lower half, in the tile. -/
abbrev down (p : Fin 256) : Fin 512 := Fin.natAdd 256 p

/-- The rows of the upper half. -/
theorem half0_at (R : Vec Ideal S512x512 .f32) (p : Fin 256) (d : Fin 512) : half0 R (ix2 p d) = R (ix2 (up p) d) :=
  congrArg R (funext fun a => match a with
    | ⟨0, _⟩ => Fin.ext (by show 0 + 1 * p.val = p.val; omega)
    | ⟨1, _⟩ => Fin.ext (by show 0 + 1 * d.val = d.val; omega))

/-- The rows of the lower half. -/
theorem half1_at (R : Vec Ideal S512x512 .f32) (p : Fin 256) (d : Fin 512) : half1 R (ix2 p d) = R (ix2 (down p) d) :=
  congrArg R (funext fun a => match a with
    | ⟨0, _⟩ => Fin.ext (by show 256 + 1 * p.val = 256 + p.val; omega)
    | ⟨1, _⟩ => Fin.ext (by show 0 + 1 * d.val = d.val; omega))

/-- A row of two halves put together, in the upper half. -/
theorem halves_low (R : Vec Ideal S512x512 .f32) (w0 w1 : Vec Ideal S256x512 .f32) (p d : Fin 512) (h : p.val < 256) :
    halves R w0 w1 (ix2 p d) = w0 (ix2 ⟨p.val, h⟩ d) := by
  have hd := d.isLt
  refine (dif_neg fun hh => ?_).trans ((dif_pos (Fin.forall_fin_two.mpr ⟨⟨Nat.zero_le _, ?lt0⟩, ⟨Nat.zero_le _, ?lt1⟩⟩)).trans (congrArg w0 ?same))
  · have h1 : 256 ≤ p.val := (hh 0).1
    omega
  case lt0 => show p.val < 0 + 256; omega
  case lt1 => show d.val < 0 + 512; omega
  case same => exact funext fun a => match a with
      | ⟨0, _⟩ => Fin.ext (by show p.val - 0 = p.val; omega)
      | ⟨1, _⟩ => Fin.ext (by show d.val - 0 = d.val; omega)

/-- A row of two halves put together, in the lower half. -/
theorem halves_high (R : Vec Ideal S512x512 .f32) (w0 w1 : Vec Ideal S256x512 .f32) (p d : Fin 512) (h : 256 ≤ p.val) :
    halves R w0 w1 (ix2 p d) = w1 (ix2 ⟨p.val - 256, by omega⟩ d) := by
  have hd := d.isLt
  have hp := p.isLt
  refine (dif_pos (Fin.forall_fin_two.mpr ⟨⟨h, ?lt0⟩, ⟨Nat.zero_le _, ?lt1⟩⟩)).trans (congrArg w1 ?same)
  case lt0 => show p.val < 256 + 256; omega
  case lt1 => show d.val < 0 + 512; omega
  case same => exact funext fun a => match a with
      | ⟨0, _⟩ => Fin.ext (by show p.val - 256 = p.val - 256; omega)
      | ⟨1, _⟩ => Fin.ext (by show d.val - 0 = d.val; omega)

section At
variable (i : grid0.Coords) (l : Fin 8) (hl : (i 1).val = l.val)
include hl

/-- The level's codebook is the level's table of all codebooks. -/
theorem cbAt_at (x3 : Vec Ideal S8x2048x512 .f32) (k : Fin 2048) (d : Fin 512) : cbAt i x3 (ix3 0 k d) = x3 (ix3 l k d) :=
  congrArg x3 (funext fun a => match a with
    | ⟨0, _⟩ => Fin.ext (by show k0_off1 i 0 + 1 * 0 = l.val; rw [k0_off1_eq]; show (i 1).val + 1 * 0 = l.val; omega)
    | ⟨1, _⟩ => Fin.ext (by show k0_off1 i 1 + 1 * k.val = k.val; rw [k0_off1_eq]; show 0 + 1 * k.val = k.val; omega)
    | ⟨2, _⟩ => Fin.ext (by show k0_off1 i 2 + 1 * d.val = d.val; rw [k0_off1_eq]; show 0 + 1 * d.val = d.val; omega))

/-- The same of the rounding remainders. -/
theorem loAt_at (lo : Vec Ideal S8x2048x512 .bf16) (k : Fin 2048) (d : Fin 512) : loAt i lo (ix3 0 k d) = lo (ix3 l k d) :=
  congrArg lo (funext fun a => match a with
    | ⟨0, _⟩ => Fin.ext (by show k0_off1 i 0 + 1 * 0 = l.val; rw [k0_off1_eq]; show (i 1).val + 1 * 0 = l.val; omega)
    | ⟨1, _⟩ => Fin.ext (by show k0_off1 i 1 + 1 * k.val = k.val; rw [k0_off1_eq]; show 0 + 1 * k.val = k.val; omega)
    | ⟨2, _⟩ => Fin.ext (by show k0_off1 i 2 + 1 * d.val = d.val; rw [k0_off1_eq]; show 0 + 1 * d.val = d.val; omega))

/-- The same of the squared norms. -/
theorem csAt_at (cs : Vec Ideal S8x2048 .f32) (k : Fin 2048) : csAt i cs (ix2 0 k) = cs (ix2 l k) :=
  congrArg cs (funext fun a => match a with
    | ⟨0, _⟩ => Fin.ext (by show k0_off2 i 0 + 1 * 0 = l.val; rw [k0_off2_eq]; show (i 1).val + 1 * 0 = l.val; omega)
    | ⟨1, _⟩ => Fin.ext (by show k0_off2 i 1 + 1 * k.val = k.val; rw [k0_off2_eq]; show 0 + 1 * k.val = k.val; omega))

/-- The indices' block after the level, at other levels. -/
theorem idx_other (J : Vec Ideal S1x8x512 .i32) (w0 w1 : Vec Ideal S1x1x256 .i32) (l' : Fin 8) (p : Fin 512) (h : l' ≠ l) :
    VecWindow.put (VecWindow.put J (k0_off3 i) S1x1x256.size w0) (k0_off4 i) S1x1x256.size w1 (ix3 0 l' p) = J (ix3 0 l' p) := by
  have hne : l'.val ≠ l.val := fun e => h (Fin.ext e)
  rw [k0_off3_eq, k0_off4_eq]
  refine (dif_neg fun hh => ?_).trans (dif_neg fun hh => ?_)
  · have h1 : (i 1).val ≤ l'.val ∧ l'.val < (i 1).val + 1 := hh 1
    omega
  · have h1 : (i 1).val ≤ l'.val ∧ l'.val < (i 1).val + 1 := hh 1
    omega

/-- The indices' block after the level, at the level, upper half. -/
theorem idx_low (J : Vec Ideal S1x8x512 .i32) (w0 w1 : Vec Ideal S1x1x256 .i32) (p : Fin 512) (h : p.val < 256) :
    VecWindow.put (VecWindow.put J (k0_off3 i) S1x1x256.size w0) (k0_off4 i) S1x1x256.size w1 (ix3 0 l p) = w0 (ix3 0 0 ⟨p.val, h⟩) := by
  rw [k0_off3_eq, k0_off4_eq]
  refine (dif_neg fun hh => ?_).trans ((dif_pos fun a => ?_).trans (congrArg w0 ?_))
  · have h1 : 256 ≤ p.val := (hh 2).1
    omega
  · match a with
    | ⟨0, _⟩ => exact ⟨Nat.zero_le _, by show 0 < 0 + 1; omega⟩
    | ⟨1, _⟩ => exact ⟨by show (i 1).val ≤ l.val; omega, by show l.val < (i 1).val + 1; omega⟩
    | ⟨2, _⟩ => exact ⟨Nat.zero_le _, by show p.val < 0 + 256; omega⟩
  · exact funext fun a => match a with
      | ⟨0, _⟩ => Fin.ext rfl
      | ⟨1, _⟩ => Fin.ext (by show l.val - (i 1).val = 0; omega)
      | ⟨2, _⟩ => Fin.ext (by show p.val - 0 = p.val; omega)

/-- The indices' block after the level, at the level, lower half. -/
theorem idx_high (J : Vec Ideal S1x8x512 .i32) (w0 w1 : Vec Ideal S1x1x256 .i32) (p : Fin 512) (h : 256 ≤ p.val) :
    VecWindow.put (VecWindow.put J (k0_off3 i) S1x1x256.size w0) (k0_off4 i) S1x1x256.size w1 (ix3 0 l p)
      = w1 (ix3 0 0 ⟨p.val - 256, by omega⟩) := by
  have hp := p.isLt
  rw [k0_off4_eq]
  refine (dif_pos fun a => ?_).trans (congrArg w1 ?_)
  · match a with
    | ⟨0, _⟩ => exact ⟨Nat.zero_le _, by show 0 < 0 + 1; omega⟩
    | ⟨1, _⟩ => exact ⟨by show (i 1).val ≤ l.val; omega, by show l.val < (i 1).val + 1; omega⟩
    | ⟨2, _⟩ => exact ⟨h, by show p.val < 256 + 256; omega⟩
  · exact funext fun a => match a with
      | ⟨0, _⟩ => Fin.ext rfl
      | ⟨1, _⟩ => Fin.ext (by show l.val - (i 1).val = 0; omega)
      | ⟨2, _⟩ => Fin.ext (by show p.val - 256 = p.val - 256; omega)

end At

/-! ## One level on a real tile -/

/-- What the tables hold: the codebooks, their squared norms, the codewords' numbers, no remainders. -/
structure Tables (C : ℕ → Book) (x3 : Vec Ideal S8x2048x512 .f32) (cs : Vec Ideal S8x2048 .f32) (io : Vec Ideal S1x2048 .f32)
    (lo : Vec Ideal S8x2048x512 .bf16) : Prop where
  book : ∀ (l : Fin 8) (k : Fin 2048) (d : Fin 512), x3 (ix3 l k d) = ((C l.val k d : ℝ) : EReal)
  norm : ∀ (l : Fin 8) (k : Fin 2048), cs (ix2 l k) = ((∑ d, C l.val k d * C l.val k d : ℝ) : EReal)
  number : ∀ k : Fin 2048, io (ix2 0 k) = ((k.val : ℝ) : EReal)
  rest : ∀ (l : Fin 8) (k : Fin 2048) (d : Fin 512), lo (ix3 l k d) = (0 : EReal)

/-- A 512 × 512 array of reals. -/
def Holds (V : Vec Ideal S512x512 .f32) (R : Fin 512 → Row) : Prop := ∀ p d, V (ix2 p d) = ((R p d : ℝ) : EReal)

/-- The upper half of an array of reals. -/
theorem half0_real {R : Vec Ideal S512x512 .f32} {r : Fin 512 → Row} (hR : Holds R r) (p : Fin 256) (d : Fin 512) :
    half0 R (ix2 p d) = ((r (up p) d : ℝ) : EReal) := (half0_at R p d).trans (hR _ _)
/-- The lower half of an array of reals. -/
theorem half1_real {R : Vec Ideal S512x512 .f32} {r : Fin 512 → Row} (hR : Holds R r) (p : Fin 256) (d : Fin 512) :
    half1 R (ix2 p d) = ((r (down p) d : ℝ) : EReal) := (half1_at R p d).trans (hR _ _)

section Step
variable {i : grid0.Coords} {l : Fin 8} (hl : (i 1).val = l.val) {C : ℕ → Book} {x3 : Vec Ideal S8x2048x512 .f32} {cs : Vec Ideal S8x2048 .f32}
  {io : Vec Ideal S1x2048 .f32} {lo : Vec Ideal S8x2048x512 .bf16} (T : Tables C x3 cs io lo)
  {R Q : Vec Ideal S512x512 .f32} {r q : Fin 512 → Row} (hR : Holds R r) (hQ : Holds Q q)

include hl T

/-- The tables' parts at the level. -/
theorem cb_real (k : Fin 2048) (d : Fin 512) : cbAt i x3 (ix3 0 k d) = ((C l.val k d : ℝ) : EReal) := (cbAt_at i l hl x3 k d).trans (T.book _ _ _)
/-- The norms that a level reads are the real ones. -/
theorem cs_real (k : Fin 2048) : csAt i cs (ix2 0 k) = ((∑ d, C l.val k d * C l.val k d : ℝ) : EReal) := (csAt_at i l hl cs k).trans (T.norm _ _)
/-- The rests that a level reads are zero. -/
theorem lo_real (k : Fin 2048) (d : Fin 512) : loAt i lo (ix3 0 k d) = (0 : EReal) := (loAt_at i l hl lo k d).trans (T.rest _ _ _)

include hR

/-- The codewords taken for the upper half. -/
theorem take0_real (p : Fin 256) (d : Fin 512) :
    k0_pay15 (k0_pay9 (cbAt i x3)) (k0_pay10 (loAt i lo)) io (k0_pay13 (cbAt i x3) (csAt i cs) io (half0 R)) (ix2 p d)
      = ((C l.val (best (r (up p)) (C l.val)) d : ℝ) : EReal) :=
  pay15_real (R := fun p => r (up p)) (cb_real hl T) (cs_real hl T) T.number (lo_real hl T) (half0_real hR) p d

/-- The codewords taken for the lower half. -/
theorem take1_real (p : Fin 256) (d : Fin 512) :
    k0_pay15 (k0_pay9 (cbAt i x3)) (k0_pay10 (loAt i lo)) io (k0_pay13 (cbAt i x3) (csAt i cs) io (half1 R)) (ix2 p d)
      = ((C l.val (best (r (down p)) (C l.val)) d : ℝ) : EReal) :=
  pay15_real (R := fun p => r (down p)) (cb_real hl T) (cs_real hl T) T.number (lo_real hl T) (half1_real hR) p d

/-- The residual after the level. -/
theorem resTo_real : Holds (resTo i x3 cs io lo R) fun p d => r p d - C l.val (best (r p) (C l.val)) d := fun p d => by
  by_cases h : p.val < 256
  · refine (halves_low _ _ _ p d h).trans ?_
    rw [pay16_at, half0_real hR, take0_real hl T hR, ← EReal.coe_sub]
    rfl
  · refine (halves_high _ _ _ p d (by omega)).trans ?_
    have e : down ⟨p.val - 256, by omega⟩ = p := Fin.ext (by show 256 + (p.val - 256) = p.val; omega)
    rw [pay25_at, half1_real hR, take1_real hl T hR, EReal.coe_sub, e]

include hQ in
/-- The quantized sum after the level. -/
theorem sumTo_real : Holds (sumTo i x3 cs io lo R Q) fun p d => q p d + C l.val (best (r p) (C l.val)) d := fun p d => by
  by_cases h : p.val < 256
  · refine (halves_low _ _ _ p d h).trans ?_
    rw [pay17_at, half0_real hQ, take0_real hl T hR, ← EReal.coe_add]
    rfl
  · refine (halves_high _ _ _ p d (by omega)).trans ?_
    have e : down ⟨p.val - 256, by omega⟩ = p := Fin.ext (by show 256 + (p.val - 256) = p.val; omega)
    rw [pay26_at, half1_real hQ, take1_real hl T hR, EReal.coe_add, e]

/-- The indices after the level: at the level the best codewords', at the others as before. -/
theorem idxTo_at (J : Vec Ideal S1x8x512 .i32) (p : Fin 512) :
    idxTo i x3 cs io R J (ix3 0 l p) = BitVec.ofNat 32 (best (r p) (C l.val)).val := by
  by_cases h : p.val < 256
  · refine (idx_low i l hl _ _ _ p h).trans ?_
    exact pay19_real (R := fun p => r (up p)) (cb_real hl T) (cs_real hl T) T.number (half0_real hR) _
  · refine (idx_high i l hl _ _ _ p (by omega)).trans ?_
    have e : down ⟨p.val - 256, by omega⟩ = p := Fin.ext (by show 256 + (p.val - 256) = p.val; omega)
    rw [pay28_eq]
    refine (pay19_real (R := fun p => r (down p)) (cb_real hl T) (cs_real hl T) T.number (half1_real hR) _).trans ?_
    rw [e]

/-- The loss after the level. -/
theorem lossTo_real (z : ℝ) :
    lossTo i x3 cs R ((z : ℝ) : EReal) = ((z + 1.25 * ∑ p, dist (r p) (C l.val) (best (r p) (C l.val)) : ℝ) : EReal) := by
  unfold lossTo
  rw [pay1_eq, pay27_eq, pay18_real (R := fun p => r (up p)) (cb_real hl T) (cs_real hl T) (half0_real hR), pay18_real (R := fun p => r (down p)) (cb_real hl T) (cs_real hl T) (half1_real hR)]
  rw [← EReal.coe_add, ← EReal.coe_mul, ← EReal.coe_add, EReal.coe_eq_coe_iff]
  have hs := Fin.sum_univ_add (M := ℝ) (a := 256) (b := 256) fun p => dist (r p) (C l.val) (best (r p) (C l.val))
  refine congrArg (fun s => z + 1.25 * s) (Eq.trans ?_ hs.symm)
  rfl

end Step

/-- Other levels' indices stay. -/
theorem idxTo_other (i : grid0.Coords) (l : Fin 8) (hl : (i 1).val = l.val) (x3 : Vec Ideal S8x2048x512 .f32) (cs : Vec Ideal S8x2048 .f32)
    (io : Vec Ideal S1x2048 .f32) (R : Vec Ideal S512x512 .f32) (J : Vec Ideal S1x8x512 .i32) (l' : Fin 8) (p : Fin 512) (h : l' ≠ l) :
    idxTo i x3 cs io R J (ix3 0 l' p) = J (ix3 0 l' p) := idx_other i l hl _ _ _ l' p h

/-- What the first point's tables are. -/
theorem tables_first (C : ℕ → Book) (x3 : Vec Ideal S8x2048x512 .f32)
    (h : ∀ (l : Fin 8) (k : Fin 2048) (d : Fin 512), x3 (ix3 l k d) = ((C l.val k d : ℝ) : EReal)) :
    Tables C x3 (k0_pay4 x3) (k0_pay6 (F := Ideal)) (k0_pay5 x3) where
  book := h
  norm l k := by
    rw [pay4_at]
    simp only [h, ← EReal.coe_mul, ← coe_sum]
  number := pay6_at
  rest l k d := by
    rw [pay5_at, h, ← EReal.coe_sub, sub_self]; rfl

/-- The residual starts at the input. -/
theorem pay7_real (x : Vec Ideal S512x512 .f32) (r : Fin 512 → Row) (h : Holds x r) : Holds (k0_pay7 x) r := fun p d => (pay7_at x p d).trans (h p d)

/-- The quantized sum starts at zero. -/
theorem pay8_real : Holds (k0_pay8 (F := Ideal)) fun _ _ => 0 := fun p d => (pay8_at p d).trans rfl

/-- The tile written. -/
theorem pay2_real (x q : Vec Ideal S512x512 .f32) (r s : Fin 512 → Row) (hx : Holds x r) (hq : Holds q s) : Holds (k0_pay2 x q) s := fun p d => by
  rw [pay2_at, hx, hq, ← EReal.coe_sub, ← EReal.coe_add, add_sub_cancel]

end Cert.Rvq
-- ==== Proof.Tile.lean ====
/- What the scratch holds between two points of the grid, over the reals, and what one point does to it. -/
module

public import proofs.«01_k».proof.Proof.Level

@[expose] public section

set_option maxRecDepth 16384

noncomputable section

namespace Cert.Rvq

open Cert.KernelIdeal Cert.KernelIdeal.Gen
open Idealize.ShloMosaic Idealize.ShloMosaic.TcCoe

variable (X : ℕ → Row) (C : ℕ → Book)

/-- The rows of tile `T`. -/
def tileRow (T : ℕ) (p : Fin 512) : Row := X (512 * T + p.val)

/-- The loss accumulated by the points before `n`. -/
def lossSum (n : ℕ) : ℝ := ∑ v ∈ Finset.range n, 1.25 * ∑ p, err (tileRow X (v / 8) p) C (v % 8)

/-- The codebook array holds the books. -/
def Books (x3 : Vec Ideal S8x2048x512 .f32) : Prop :=
  ∀ (l : Fin 8) (k : Fin 2048) (d : Fin 512), x3 (ix3 l k d) = ((C l.val k d : ℝ) : EReal)

/-- What the scratch holds when point `t` runs its level, its resets done. -/
structure Before (t : ℕ) (x3 : Vec Ideal S8x2048x512 .f32) (R Q : Vec Ideal S512x512 .f32) (cs : Vec Ideal S8x2048 .f32)
    (io : Vec Ideal S1x2048 .f32) (lo : Vec Ideal S8x2048x512 .bf16) (z : Ideal .f32) : Prop where
  tables : Tables C x3 cs io lo
  res : Holds R fun p => resid (tileRow X (t / 8) p) C (t % 8)
  sum : Holds Q fun p => qsum (tileRow X (t / 8) p) C (t % 8)
  loss : z = ((lossSum X C t : ℝ) : EReal)

/-- What the scratch holds after the first `n` points, one at least. -/
structure After (n : ℕ) (R Q : Vec Ideal S512x512 .f32) (cs : Vec Ideal S8x2048 .f32)
    (io : Vec Ideal S1x2048 .f32) (lo : Vec Ideal S8x2048x512 .bf16) (z : Vec Ideal S1x1 .f32) : Prop where
  tables : ∀ x3, Books C x3 → Tables C x3 cs io lo
  res : Holds R fun p => resid (tileRow X ((n - 1) / 8) p) C ((n - 1) % 8 + 1)
  sum : Holds Q fun p => qsum (tileRow X ((n - 1) / 8) p) C ((n - 1) % 8 + 1)
  loss : z = fun _ => ((lossSum X C n : ℝ) : EReal)

variable {X C} {t : ℕ} {x2 : Vec Ideal S512x512 .f32} {x3 : Vec Ideal S8x2048x512 .f32} {R Q : Vec Ideal S512x512 .f32}
  {cs : Vec Ideal S8x2048 .f32} {io : Vec Ideal S1x2048 .f32} {lo : Vec Ideal S8x2048x512 .bf16} {z : Ideal .f32}

/-- At the first point everything is reset. -/
theorem before_first (hx : Holds x2 (tileRow X 0)) (hb : Books C x3) :
    Before X C 0 x3 (k0_pay7 x2) (k0_pay8 (F := Ideal)) (k0_pay4 x3) (k0_pay6 (F := Ideal)) (k0_pay5 x3)
      (FloatOps.ofBits (F := Ideal) FTy.f32 0#32) where
  tables := tables_first C x3 hb
  res := pay7_real _ _ hx
  sum := pay8_real
  loss := by
    simp [lossSum, Ideal.ofBits, Ideal.ieee]

/-- At the first level of a later tile the residual and the sum are reset. -/
theorem before_zero {V : Vec Ideal S1x1 .f32} (h8 : t % 8 = 0) (hx : Holds x2 (tileRow X (t / 8))) (hb : Books C x3)
    (h : After X C t R Q cs io lo V) :
    Before X C t x3 (k0_pay7 x2) (k0_pay8 (F := Ideal)) cs io lo (V (Shape.Idx.first (by decide))) where
  tables := h.tables _ hb
  res := by rw [h8]; exact pay7_real _ _ hx
  sum := by rw [h8]; exact pay8_real
  loss := by rw [h.loss]

/-- At a later level the scratch is as the point before left it. -/
theorem before_next {V : Vec Ideal S1x1 .f32} (h8 : t % 8 ≠ 0) (hb : Books C x3) (h : After X C t R Q cs io lo V) :
    Before X C t x3 R Q cs io lo (V (Shape.Idx.first (by decide))) := by
  have e1 : (t - 1) / 8 = t / 8 := by omega
  have e2 : (t - 1) % 8 + 1 = t % 8 := by omega
  have hr := h.res
  have hs := h.sum
  rw [e1, e2] at hr hs
  exact ⟨h.tables _ hb, hr, hs, by rw [h.loss]⟩

variable {i : grid0.Coords} (hl : (i 1).val = t % 8)

/-- The level of a point. -/
def levelOf (t : ℕ) : Fin 8 := ⟨t % 8, Nat.mod_lt _ (by decide)⟩

include hl in
/-- What a point leaves in the scratch. -/
theorem after_point (hlo : ∀ x3, Books C x3 → Tables C x3 cs io lo) (h : Before X C t x3 R Q cs io lo z) :
    After X C (t + 1) (resTo i x3 cs io lo R) (sumTo i x3 cs io lo R Q) cs io lo (fun _ => lossTo i x3 cs R z) where
  tables := hlo
  res := resTo_real (l := levelOf t) hl h.tables h.res
  sum := sumTo_real (l := levelOf t) hl h.tables h.res h.sum
  loss := by
    have hz := h.loss
    subst hz
    funext _
    rw [lossTo_real (l := levelOf t) hl h.tables h.res]
    exact congrArg _ (Finset.sum_range_succ _ _).symm

/-- Tables that hold for one codebook array hold for any array of the same books. -/
theorem tables_any (h : Tables C x3 cs io lo) (y3 : Vec Ideal S8x2048x512 .f32) (hb : Books C y3) : Tables C y3 cs io lo :=
  ⟨hb, h.norm, h.number, h.rest⟩

include hl in
/-- The level's row of indices after a point. -/
theorem idx_point (h : Before X C t x3 R Q cs io lo z) (J : Vec Ideal S1x8x512 .i32) (p : Fin 512) :
    idxTo i x3 cs io R J (ix3 0 (levelOf t) p) = BitVec.ofNat 32 (pick (tileRow X (t / 8) p) C (t % 8)).val :=
  idxTo_at (l := levelOf t) hl h.tables h.res J p

include hl in
/-- The tile written after the last level. -/
theorem quant_point (hx : Holds x2 (tileRow X (t / 8))) (h8 : t % 8 = 7) (h : Before X C t x3 R Q cs io lo z) :
    Holds (k0_pay2 x2 (sumTo i x3 cs io lo R Q)) fun p => qsum (tileRow X (t / 8) p) C 8 := by
  have hs := sumTo_real (l := levelOf t) hl h.tables h.res h.sum
  refine pay2_real _ _ _ _ hx ?_
  intro p d
  refine (hs p d).trans ?_
  show ((qsum (tileRow X (t / 8) p) C (t % 8 + 1) d : ℝ) : EReal) = _
  rw [h8]

end Cert.Rvq
-- ==== Proof.Point.lean ====
/- The body's run at any point of the grid, from any contents of its windows and of the scratch, with what it leaves
   told when the argument arrays hold reals. -/
module

public import proofs.«01_k».proof.Proof.RunA
public import proofs.«01_k».proof.Proof.Tile

@[expose] public section

set_option maxRecDepth 16384

noncomputable section

namespace Cert.Rvq

open Cert.KernelIdeal Cert.KernelIdeal.Gen
open Idealize.ShloMosaic Idealize.ShloMosaic.TcCoe

/-- What a point leaves: the scratch, and the outputs' blocks in terms of what they held. -/
structure Left (X : ℕ → Row) (C : ℕ → Book) (t : ℕ) (x5 : Vec Ideal S1x8x512 .i32)
    (y4 : Vec Ideal S512x512 .f32) (y5 : Vec Ideal S1x8x512 .i32) (y6 : Vec Ideal S1x1 .f32) (y7 : Vec Ideal S512x512 .f32) (y8 : Vec Ideal S512x512 .f32)
    (y9 : Vec Ideal S8x2048 .f32) (y10 : Vec Ideal S1x2048 .f32) (y11 : Vec Ideal S8x2048x512 .bf16) (y12 : Vec Ideal S1x1 .f32) : Prop where
  scratch : After X C (t + 1) y7 y8 y9 y10 y11 y12
  quant : t % 8 = 7 → Holds y4 fun p => qsum (tileRow X (t / 8) p) C 8
  row : ∀ p : Fin 512, y5 (ix3 0 (levelOf t) p) = BitVec.ofNat 32 (pick (tileRow X (t / 8) p) C (t % 8)).val
  rows : ∀ (l : Fin 8) (p : Fin 512), l ≠ levelOf t → y5 (ix3 0 l p) = x5 (ix3 0 l p)
  loss : t % 8 = 7 → y6 = fun _ => ((lossSum X C (t + 1) : ℝ) : EReal)

variable (c : Dev nD) (X : ℕ → Row) (C : ℕ → Book) (t : Fin cfg0.N)
  (arg2 : Memref sig .tc .vmem S512x512 .f32) (harg2 : arg2.IsWhole)
  (arg3 : Memref sig .tc .vmem S8x2048x512 .f32) (harg3 : arg3.IsWhole)
  (arg4 : Memref sig .tc .vmem S512x512 .f32) (harg4 : arg4.IsWhole)
  (arg5 : Memref sig .tc .vmem S1x8x512 .i32) (harg5 : arg5.IsWhole)
  (arg6 : Memref sig .tc .vmem S1x1 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x2048 .f32) (harg9 : arg9.IsWhole)
  (arg10 : Memref sig .tc .vmem S1x2048 .f32) (harg10 : arg10.IsWhole)
  (arg11 : Memref sig .tc .vmem S8x2048x512 .bf16) (harg11 : arg11.IsWhole)
  (arg12 : Memref sig .tc .smem S1x1 .f32) (harg12 : arg12.IsWhole)
  (x2 : Vec Ideal S512x512 .f32) (x3 : Vec Ideal S8x2048x512 .f32) (x4 : Vec Ideal S512x512 .f32) (x5 : Vec Ideal S1x8x512 .i32) (x6 : Vec Ideal S1x1 .f32) (x7 : Vec Ideal S512x512 .f32) (x8 : Vec Ideal S512x512 .f32) (x9 : Vec Ideal S8x2048 .f32) (x10 : Vec Ideal S1x2048 .f32) (x11 : Vec Ideal S8x2048x512 .bf16) (x12 : Vec Ideal S1x1 .f32)

/-- The arguments' blocks at a point hold reals. -/
def Reals : Prop := Holds x2 (tileRow X (t.val / 8)) ∧ Books C x3

/-- The body runs at every point, and leaves what `Left` says when its inputs hold reals and the scratch held what the
    point before left. -/
theorem point_run (G : Prop) (hG : G → Reals X C t x2 x3) (hs : G → t.val ≠ 0 → After X C t.val x7 x8 x9 x10 x11 x12) :
    ∃ y4 y5 y6 y7 y8 y9 y10 y11 y12,
      BodyTo c (grid0.coords t) arg2 harg2 arg3 harg3 arg4 harg4 arg5 harg5 arg6 harg6 arg7 harg7 arg8 harg8 arg9 harg9 arg10 harg10 arg11 harg11 arg12 harg12
        x2 x3 x4 x5 x6 x7 x8 x9 x10 x11 x12 y4 y5 y6 y7 y8 y9 y10 y11 y12
      ∧ (G → Left X C t.val x5 y4 y5 y6 y7 y8 y9 y10 y11 y12) := by
  have hl := coord_level t
  by_cases h0 : t.val = 0
  · have h7 : t.val % 8 ≠ 7 := by omega
    refine ⟨_, _, _, _, _, _, _, _, _, runA c (grid0.coords t) arg2 harg2 arg3 harg3 arg4 harg4 arg5 harg5 arg6 harg6 arg7 harg7 arg8 harg8 arg9 harg9 arg10 harg10 arg11 harg11 arg12 harg12
      x2 x3 x4 x5 x6 x7 x8 x9 x10 x11 x12 ((condFirst_iff t).mpr h0) ((condZero_iff t).mpr (by omega)) (fun h => h7 ((condLast_iff t).mp h)), fun g => ?_⟩
    have hB : Before X C t.val x3 (k0_pay7 x2) (k0_pay8 (F := Ideal)) (k0_pay4 x3) (k0_pay6 (F := Ideal)) (k0_pay5 x3)
        (FloatOps.ofBits (F := Ideal) FTy.f32 0#32) := by
      have hx := (hG g).1
      rw [h0] at hx ⊢
      exact before_first hx (hG g).2
    exact ⟨after_point hl (fun y3 hb => tables_any hB.tables y3 hb) hB, fun h => absurd h h7, idx_point hl hB x5,
      fun l p h => idxTo_other _ _ hl _ _ _ _ _ l p h, fun h => absurd h h7⟩
  · have hf : ¬condFirst (grid0.coords t) := fun h => h0 ((condFirst_iff t).mp h)
    by_cases h8 : t.val % 8 = 0
    · have h7 : t.val % 8 ≠ 7 := by omega
      refine ⟨_, _, _, _, _, _, _, _, _, runD c (grid0.coords t) arg2 harg2 arg3 harg3 arg4 harg4 arg5 harg5 arg6 harg6 arg7 harg7 arg8 harg8 arg9 harg9 arg10 harg10 arg11 harg11 arg12 harg12
        x2 x3 x4 x5 x6 x7 x8 x9 x10 x11 x12 hf ((condZero_iff t).mpr h8) (fun h => h7 ((condLast_iff t).mp h)), fun g => ?_⟩
      have hB := before_zero h8 (hG g).1 (hG g).2 (hs g h0)
      exact ⟨after_point hl (fun y3 hb => tables_any hB.tables y3 hb) hB, fun h => absurd h h7, idx_point hl hB x5,
        fun l p h => idxTo_other _ _ hl _ _ _ _ _ l p h, fun h => absurd h h7⟩
    · have hz : ¬condZero (grid0.coords t) := fun h => h8 ((condZero_iff t).mp h)
      by_cases h7 : t.val % 8 = 7
      · refine ⟨_, _, _, _, _, _, _, _, _, runC c (grid0.coords t) arg2 harg2 arg3 harg3 arg4 harg4 arg5 harg5 arg6 harg6 arg7 harg7 arg8 harg8 arg9 harg9 arg10 harg10 arg11 harg11 arg12 harg12
          x2 x3 x4 x5 x6 x7 x8 x9 x10 x11 x12 hf hz ((condLast_iff t).mpr h7), fun g => ?_⟩
        have hB := before_next h8 (hG g).2 (hs g h0)
        have hA := after_point hl (fun y3 hb => tables_any hB.tables y3 hb) hB
        exact ⟨hA, fun h => quant_point hl (hG g).1 h hB, idx_point hl hB x5,
          fun l p h => idxTo_other _ _ hl _ _ _ _ _ l p h, fun _ => hA.loss⟩
      · refine ⟨_, _, _, _, _, _, _, _, _, runB c (grid0.coords t) arg2 harg2 arg3 harg3 arg4 harg4 arg5 harg5 arg6 harg6 arg7 harg7 arg8 harg8 arg9 harg9 arg10 harg10 arg11 harg11 arg12 harg12
          x2 x3 x4 x5 x6 x7 x8 x9 x10 x11 x12 hf hz (fun h => h7 ((condLast_iff t).mp h)), fun g => ?_⟩
        have hB := before_next h8 (hG g).2 (hs g h0)
        exact ⟨after_point hl (fun y3 hb => tables_any hB.tables y3 hb) hB, fun h => absurd h h7, idx_point hl hB x5,
          fun l p h => idxTo_other _ _ hl _ _ _ _ _ l p h, fun h => absurd h h7⟩

end Cert.Rvq
-- ==== Proof.Obligation.lean ====
/- The pipeline's proof data: what its windows and its scratch hold from point to point; and the body's obligation. -/
module

public import proofs.«01_k».proof.Proof.Launch
public import proofs.«01_k».proof.Proof.Point

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline

local notation "𝕄" => MT nD τ sig Unit (Elt Ideal) ℕ (UR sig nD τ) ℕ

variable (m : (ℓ : Loc nD τ sig) → Buf (Elt Ideal) ℓ) (X : ℕ → Row) (C : ℕ → Book)

/-- The blocks of both inputs hold reals at every point: the rows `X` and the books `C`. -/
def Good (c : Dev nD) : Prop := ∀ t : Fin cfg0.N, Reals X C t (iblk m c 0 t) (iblk m c 1 t)

/-- What holds of the scratch before point `n`. -/
abbrev Kept (c : Dev nD) (n : ℕ) (s0 s1 : Vec Ideal S512x512 .f32) (s2 : Vec Ideal S8x2048 .f32) (s3 : Vec Ideal S1x2048 .f32)
    (s4 : Vec Ideal S8x2048x512 .bf16) (s5 : Vec Ideal S1x1 .f32) : Prop :=
  Good m X C c → n ≠ 0 → After X C n s0 s1 s2 s3 s4 s5

/-- The scratch between points: owned, at contents of which `Kept` holds. -/
def scratchAt (c : Dev nD) (n : ℕ) : sProp 𝕄 :=
  iprop((∃ s0 s1 s2 s3 s4 s5, ⌜Kept m X C c n s0 s1 s2 s3 s4 s5⌝
    ∗ owns (c : Thread nD τ) (Memref.whole cc0_scratch0) fullShare s0 ∗ owns (c : Thread nD τ) (Memref.whole cc0_scratch1) fullShare s1
    ∗ owns (c : Thread nD τ) (Memref.whole cc0_scratch2) fullShare s2 ∗ owns (c : Thread nD τ) (Memref.whole cc0_scratch3) fullShare s3
    ∗ owns (c : Thread nD τ) (Memref.whole cc0_scratch4) fullShare s4 ∗ owns (c : Thread nD τ) (Memref.whole cc0_scratch5) fullShare s5)
    ∗ (∃ r, prngReg c r))

/-- What point `t` may leave in a window that held `Y`. -/
def leaveAt (c : Dev nD) : (w : Fin cfg0.W) → (t : Fin cfg0.N) → (Y Z : (cfg0.win w).block.Idx → Elt Ideal (cfg0.win w).elt) → Prop
  | 0 => fun _ Y Z => Z = Y
  | 1 => fun _ Y Z => Z = Y
  | 2 => fun t _ (Z : Vec Ideal S512x512 .f32) => Good m X C c → t.val % 8 = 7 → Holds Z fun p => qsum (tileRow X (t.val / 8) p) C 8
  | 3 => fun t (Y Z : Vec Ideal S1x8x512 .i32) => Good m X C c →
      (∀ p : Fin 512, Z (ix3 0 (levelOf t.val) p) = BitVec.ofNat 32 (pick (tileRow X (t.val / 8) p) C (t.val % 8)).val)
      ∧ ∀ (l : Fin 8) (p : Fin 512), l ≠ levelOf t.val → Z (ix3 0 l p) = Y (ix3 0 l p)
  | 4 => fun t _ (Z : Vec Ideal S1x1 .f32) => Good m X C c → t.val % 8 = 7 → Z = fun _ => ((lossSum X C (t.val + 1) : ℝ) : EReal)
  | ⟨_ + 5, h⟩ => absurd h (Nat.not_lt.2 (Nat.le_add_left _ _))

/-- The pipeline's proof data. -/
def rdat (c : Dev nD) : RDat τ (Elt Ideal) Unit ℕ (UR sig nD τ) ℕ cfg0 c where
  A w := V m c (arrRef spec0 w)
  after := leaveAt m X C c
  Φ t := scratchAt m X C c t.val
  q _ := fullShare
  owed _ := 0

/-- The first input's buffer holds its block at every point. -/
theorem finds0 (c : Dev nD) (t : Fin cfg0.N) (Y) (h : (rdat m X C c).Finds 0 t Y) : Y = iblk m c 0 t := by
  obtain ⟨d, hd⟩ := (rdat m X C c).finds_in_eq_fetched 0 rfl (fun _ _ _ => rfl) (fun _ _ _ h => h) t Y h
  rw [hd]
  unfold RDat.fetched RDat.blockOf iblk
  rfl

/-- The second input's buffer holds its block at every point. -/
theorem finds1 (c : Dev nD) (t : Fin cfg0.N) (Y) (h : (rdat m X C c).Finds 1 t Y) : Y = iblk m c 1 t := by
  obtain ⟨d, hd⟩ := (rdat m X C c).finds_in_eq_fetched 1 rfl (fun _ _ _ => rfl) (fun _ _ _ h => h) t Y h
  rw [hd]
  unfold RDat.fetched RDat.blockOf iblk
  rfl

/-- The scratch as the launch hands it over. -/
theorem launch_eq (c : Dev nD) :
    (ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- Before the first point nothing is known of the scratch. -/
theorem scratch_in (c : Dev nD) : ΦA spec0 c ⊢ (rdat m X C c).Φ 0 := by
  show ΦA spec0 c ⊢ scratchAt m X C c 0
  rw [launch_eq]
  unfold scratchAt
  iintro ⟨⟨⟨%s0, H0⟩, ⟨%s1, H1⟩, ⟨%s2, H2⟩, ⟨%s3, H3⟩, ⟨%s4, H4⟩, ⟨%s5, H5⟩⟩, Hg⟩
  isplitr [Hg]
  · iexists s0, s1, s2, s3, s4, s5
    isplitr
    · ipureintro; exact fun _ h => absurd rfl h
    isplitl [H0]; · iexact H0
    isplitl [H1]; · iexact H1
    isplitl [H2]; · iexact H2
    isplitl [H3]; · iexact H3
    isplitl [H4]; · iexact H4
    iexact H5
  · iexact Hg

/-- And at the end it is handed back. -/
theorem scratch_out (c : Dev nD) : (rdat m X C c).Φ (Fin.last cfg0.N) ⊢ ΦA spec0 c := by
  show scratchAt m X C c _ ⊢ ΦA spec0 c
  rw [launch_eq]
  unfold scratchAt
  iintro ⟨⟨%s0, %s1, %s2, %s3, %s4, %s5, -, H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact Hg

/-- The body called at a point. -/
theorem row_eq (t : Fin cfg0.N) : defs₀ (F := Ideal) .tc cfg0.body (cfg0.bodyArgs t (cfg0.slots t)) = bodyAt0 t := by
  unfold defs₀; rw [Defs.onTc_tc]

/-- Nothing is owed. -/
theorem owed_zero (c : Dev nD) (t : Fin (cfg0.N + 1)) : (rdat m X C c).owed t = 0 := rfl

set_option maxHeartbeats 1600000 in
/-- The body's obligation. -/
theorem obligation (c : Dev nD) : (rdat m X C c).BodyObligation (defs₀ (F := Ideal)) Variants.none () Set.univ := by
  intro t Y hY
  rw [bigSep_W0, bigSep_W0, row_eq]
  have e0 := finds0 m X C c t _ (hY 0)
  have e1 := finds1 m X C c t _ (hY 1)
  show iprop(scratchAt m X C c t.val ∗ _) ⊢ wp _ _ _ _ fun _ => iprop(scratchAt m X C c (t.val + 1) ∗ _)
  unfold scratchAt
  iintro ⟨⟨⟨%s0, %s1, %s2, %s3, %s4, %s5, %hs, S0, S1, S2, S3, S4, S5⟩, Hg⟩, Ho, H0, H1, H2, H3, H4⟩
  obtain ⟨y4, y5, y6, y7, y8, y9, y10, y11, y12, hrun, hleft⟩ := point_run c X C t
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (Y 0) (Y 1) (Y 2) (Y 3) (Y 4) s0 s1 s2 s3 s4 s5 (Good m X C c) (fun g => by rw [e0, e1]; exact g t) hs
  iapply (hrun Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitr [Hg]
    · iexists y7, y8, y9, y10, y11, y12
      isplitr
      · ipureintro; exact fun g _ => (hleft g).scratch
      isplitl [S0]; · iexact S0
      isplitl [S1]; · iexact S1
      isplitl [S2]; · iexact S2
      isplitl [S3]; · iexact S3
      isplitl [S4]; · iexact S4
      iexact S5
    · iexact Hg
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists y4; isplitr; · ipureintro; exact fun g h => (hleft g).quant h
    iexact H2
  isplitl [H3]
  · iexists y5; isplitr; · ipureintro; exact fun g => ⟨(hleft g).row, (hleft g).rows⟩
    iexact H3
  · iexists y6; isplitr; · ipureintro; exact fun g h => (hleft g).loss h
    iexact H4

end Cert.Rvq
-- ==== Proof.Arrays.lean ====
/- What the pipeline's output arrays hold at the end, and what its input blocks hold at a point. -/
module

public import proofs.«01_k».proof.Proof.Obligation
public import Idealize.ShloMosaic.Lib.Pipeline.ArrRel
public import Idealize.ShloMosaic.Lib.Pipeline.ValueKit
public import Idealize.ShloMosaic.Lib.Pointwise

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.ShloMosaic.Pipeline

variable (m : (ℓ : Loc nD τ sig) → Buf (Elt Ideal) ℓ) (X : ℕ → Row) (C : ℕ → Book) (c : Dev nD)

/-- The indices' block once a point has left it: every row up to the level is right. -/
theorem rows_left (g : Good m X C c) (n : ℕ) : ∀ (t : Fin cfg0.N), t.val = n → ∀ (Z : Vec Ideal S1x8x512 .i32), (rdat m X C c).Leaves 3 t Z →
    ∀ (l : Fin 8) (p : Fin 512), l.val ≤ t.val % 8 → Z (ix3 0 l p) = BitVec.ofNat 32 (pick (tileRow X (t.val / 8) p) C l.val).val := by
  induction n with
  | zero =>
    intro t ht Z hZ l p hlt
    obtain ⟨Y, -, hY⟩ := hZ
    obtain ⟨h1, -⟩ : _ ∧ _ := hY g
    have e : l = levelOf t.val := Fin.ext (by show l.val = t.val % 8; omega)
    rw [e]
    exact h1 p
  | succ n ih =>
    intro t ht Z hZ l p hlt
    obtain ⟨Y, hF, hY⟩ := hZ
    obtain ⟨h1, h2⟩ : _ ∧ _ := hY g
    by_cases e : l = levelOf t.val
    · rw [e]; exact h1 p
    · have hne : l.val ≠ t.val % 8 := fun h => e (Fin.ext h)
      refine (h2 l p e).trans ?_
      have hf : (cfg0.win 3).fetch t = false := rfl
      have hN : t.val - 1 < cfg0.N := Nat.lt_of_le_of_lt (Nat.sub_le _ _) t.isLt
      rcases ((rdat m X C c).finds_of_pos hf (by omega) Y).mp hF with hfl | hL
      · have := (flush0_3 ⟨t.val - 1, hN⟩).mp hfl
        have : (t.val - 1) % 8 = 7 := this
        omega
      · have h3 := ih ⟨t.val - 1, hN⟩ (by show t.val - 1 = n; omega) Y hL l p (by show l.val ≤ (t.val - 1) % 8; omega)
        rw [h3]
        have : (t.val - 1) / 8 = t.val / 8 := by omega
        show BitVec.ofNat 32 (pick (tileRow X ((t.val - 1) / 8) p) C l.val).val = _
        rw [this]

/-- The block of window 2 at a point, along axis 0. -/
theorem idx2_0 : ∀ t : Fin cfg0.N, (cfg0.win 2).index t 0 = t.val / 8 := by decide +kernel
/-- The block of window 2 at a point, along axis 1. -/
theorem idx2_1 : ∀ t : Fin cfg0.N, (cfg0.win 2).index t 1 = 0 := by decide +kernel
/-- The block of window 3 at a point, along axis 0. -/
theorem idx3_0 : ∀ t : Fin cfg0.N, (cfg0.win 3).index t 0 = t.val / 8 := by decide +kernel
/-- The block of window 3 at a point, along axis 1. -/
theorem idx3_1 : ∀ t : Fin cfg0.N, (cfg0.win 3).index t 1 = 0 := by decide +kernel
/-- The block of window 3 at a point, along axis 2. -/
theorem idx3_2 : ∀ t : Fin cfg0.N, (cfg0.win 3).index t 2 = 0 := by decide +kernel
/-- The block of window 0 at a point, along axis 0. -/
theorem idx0_0 : ∀ t : Fin cfg0.N, (cfg0.win 0).index t 0 = t.val / 8 := by decide +kernel
/-- The block of window 0 at a point, along axis 1. -/
theorem idx0_1 : ∀ t : Fin cfg0.N, (cfg0.win 0).index t 1 = 0 := by decide +kernel
/-- The block of window 1 at a point, along axis 0. -/
theorem idx1_0 : ∀ t : Fin cfg0.N, (cfg0.win 1).index t 0 = 0 := by decide +kernel
/-- The block of window 1 at a point, along axis 1. -/
theorem idx1_1 : ∀ t : Fin cfg0.N, (cfg0.win 1).index t 1 = 0 := by decide +kernel
/-- The block of window 1 at a point, along axis 2. -/
theorem idx1_2 : ∀ t : Fin cfg0.N, (cfg0.win 1).index t 2 = 0 := by decide +kernel

/-- The quantized rows at the end. -/
theorem quant_end (g : Good m X C c) (G : (⟨S8192x512, .f32⟩ : BufTy).Contents (Elt Ideal)) (h : (rdat m X C c).ArrAt 2 cfg0.N G) :
    G = fun j : S8192x512.Idx => ((qsum (X (j 0).val) C 8 (j 1) : ℝ) : EReal) := by
  obtain ⟨Z, hZ, hA⟩ := RDat.ArrAt.exists_exact (w := 2) h
  rw [hA (Function.update (fun _ _ _ => Classical.arbitrary _) 2 Z) fun _ _ _ => by rw [Function.update_self]]
  refine Dat.arrAt_eq_of_covers _ 2 _ (by decide +kernel) fun t hf y => ?_
  have h7 := (flush0_2 t).mp hf
  obtain ⟨_, -, hL⟩ := hZ t t.isLt hf
  have hL : Holds (Z t) fun p => qsum (tileRow X (t.val / 8) p) C 8 := hL g h7
  blk_simp
  rw [RDat.withAfter_after, Function.update_self]
  have hy : (y : S512x512.Idx) = ix2 (y 0) (y 1) := by funext a; fin_cases a <;> rfl
  have e1 : (win0_2.blk t).view.emb y 1 = y 1 := Fin.ext (by blk_simp [idx2_1 t])
  have e0 : win0_2.index t 0 * 512 + (y 0).val = 512 * (t.val / 8) + (y 0).val := by
    rw [show win0_2.index t 0 = t.val / 8 from idx2_0 t, mul_comm]
  rw [e1, e0]
  refine (congrArg (Z t) hy).trans ?_
  exact hL (y 0) (y 1)

/-- The indices at the end. -/
theorem idx_end (g : Good m X C c) (G : (⟨S16x8x512, .i32⟩ : BufTy).Contents (Elt Ideal)) (h : (rdat m X C c).ArrAt 3 cfg0.N G) :
    G = fun j : S16x8x512.Idx => BitVec.ofNat 32 (pick (X (512 * (j 0).val + (j 2).val)) C (j 1).val).val := by
  obtain ⟨Z, hZ, hA⟩ := RDat.ArrAt.exists_exact (w := 3) h
  rw [hA (Function.update (fun _ _ _ => Classical.arbitrary _) 3 Z) fun _ _ _ => by rw [Function.update_self]]
  refine Dat.arrAt_eq_of_covers _ 3 _ (by decide +kernel) fun t hf y => ?_
  have h7 := (flush0_3 t).mp hf
  have hL := rows_left m X C c g t.val t rfl (Z t) (hZ t t.isLt hf)
  blk_simp
  rw [RDat.withAfter_after, Function.update_self]
  have hy : (y : S1x8x512.Idx) = ix3 0 (y 1) (y 2) := by
    funext a; fin_cases a
    · exact Subsingleton.elim (α := Fin 1) _ _
    · rfl
    · rfl
  rw [show win0_3.index t 0 = t.val / 8 from idx3_0 t, show win0_3.index t 1 = 0 from idx3_1 t, show win0_3.index t 2 = 0 from idx3_2 t]
  simp only [Nat.zero_mul, Nat.zero_add]
  refine (congrArg (Z t) hy).trans ?_
  refine hL (y 1) (y 2) ?_
  have : (y 1).val < 8 := (y 1).isLt
  omega

/-- The loss at the end. -/
theorem loss_end (g : Good m X C c) (G : (⟨S1x1, .f32⟩ : BufTy).Contents (Elt Ideal)) (h : (rdat m X C c).ArrAt 4 cfg0.N G) :
    G = fun _ => ((lossSum X C 128 : ℝ) : EReal) := by
  obtain ⟨Z, hZ, hA⟩ := RDat.ArrAt.exists_exact (w := 4) h
  rw [hA (Function.update (fun _ _ _ => Classical.arbitrary _) 4 Z) fun _ _ _ => by rw [Function.update_self]]
  refine Dat.arrAt_eq_of_covers _ 4 _ (by decide +kernel) fun t hf y => ?_
  have h7 := (flush0_4 t).mp hf
  have ht : t.val < 128 := Nat.lt_of_lt_of_eq t.isLt N_0
  obtain ⟨_, -, hL⟩ := hZ t t.isLt hf
  have hL : Z t = fun _ => ((lossSum X C (t.val + 1) : ℝ) : EReal) := hL g (by omega)
  blk_simp
  rw [RDat.withAfter_after, Function.update_self, hL]
  have e : t.val + 1 = 128 := by omega
  rw [e]

/-- The first input's block at a point: a tile's rows of the array. -/
theorem tile_at (t : Fin cfg0.N) (p d : Fin 512) (hb : 512 * (t.val / 8) + p.val < 8192) :
    (iblk m c 0 t : Vec Ideal S512x512 .f32) (ix2 p d) = V m c main_v0 (ix2 (⟨512 * (t.val / 8) + p.val, hb⟩ : Fin 8192) d) := by
  blk_ext [iblk, idx0_0 t, idx0_1 t]

/-- The second input's block at a point: the whole array. -/
theorem books_at (t : Fin cfg0.N) (l : Fin 8) (k : Fin 2048) (d : Fin 512) :
    (iblk m c 1 t : Vec Ideal S8x2048x512 .f32) (ix3 l k d) = V m c main_arg1 (ix3 l k d) := by
  blk_ext [iblk, idx1_0 t, idx1_1 t, idx1_2 t]

end Cert.Rvq
-- ==== Proof.KernelEnd.lean ====
/- The kernel program's run: its results in terms of the residual rows, its arguments unchanged. -/
module

public import proofs.«01_k».proof.Proof.Arrays
public import Idealize.ShloMosaic.Lib.Claim
public import Idealize.ShloMosaic.Lib.StableHlo.RunRead
public import Idealize.ShloMosaic.Lib.StableHlo.ReadAt

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL.Sem
open Idealize.ShloMosaic.Rounds Idealize.ShloMosaic.Pipeline

variable (m : (ℓ : Loc nD τ sig) → Buf (Elt Ideal) ℓ) (ρ : Dev nD → PrngReg) (X : ℕ → Row) (C : ℕ → Book)

/-- The word of 4194304. -/
theorem bits_elems : Ideal.ofBits FTy.f32 1249902592#32 = ((4194304 : ℝ) : EReal) := by
  simp [Ideal.ofBits, Ideal.ieee, -EReal.coe_mul]; norm_num

/-- The word of 8. -/
theorem bits_eight : Ideal.ofBits FTy.f32 1090519040#32 = ((8 : ℝ) : EReal) := by
  simp [Ideal.ofBits, Ideal.ieee, -EReal.coe_mul]; norm_num

/-- A real divided by a nonzero real. -/
theorem div_real (a b : ℝ) (hb : b ≠ 0) : Ideal.div (a : EReal) (b : EReal) = ((a / b : ℝ) : EReal) := by
  rw [Ideal.div_coe hb, ← EReal.coe_mul, mul_one_div]

/-- The average over the elements and over the levels. -/
theorem avg_eq (a : ℝ) : Ideal.div (Ideal.div (a : EReal) (Ideal.ofBits FTy.f32 1249902592#32)) (Ideal.ofBits FTy.f32 1090519040#32)
    = ((a / 4194304 / 8 : ℝ) : EReal) := by
  rw [bits_elems, bits_eight, div_real _ _ (by norm_num), div_real _ _ (by norm_num)]

/-- The rows of the first argument. -/
def rowsOf (x : Vec Ideal S8x1024x512 .f32) : ℕ → Row := fun n d =>
  (x (ix3 (⟨n / 1024 % 8, Nat.mod_lt _ (by decide)⟩ : Fin 8) (⟨n % 1024, Nat.mod_lt _ (by decide)⟩ : Fin 1024) d)).toReal

/-- The books of the second argument. -/
def booksOf (cb : Vec Ideal S8x2048x512 .f32) : ℕ → Book := fun l k d => (cb (ix3 (⟨l % 8, Nat.mod_lt _ (by decide)⟩ : Fin 8) k d)).toReal

/-- Both arguments hold reals. -/
def ArgsReal (x : Vec Ideal S8x1024x512 .f32) (cb : Vec Ideal S8x2048x512 .f32) : Prop :=
  (∀ j, x j = ((x j).toReal : EReal)) ∧ ∀ j, cb j = ((cb j).toReal : EReal)

section Tail
variable (c : Dev nD) (A : Arrays c)

/-- The first argument after the tail: as launched. -/
theorem tail_arg0 : tailOf m c A main_arg0 = m ((c : Thread nD τ).loc main_arg0) := by
  unfold tailOf
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The quantized rows' array, before the tail. -/
theorem arr_quant : withArrays spec0 c (V0 m c) A (Proc.devRef .tc main_v1_0) = A 2 := withArrays_arr spec0 launch0.win.arr_inj c _ A 2
/-- The indices' array, before the tail. -/
theorem arr_idx : withArrays spec0 c (V0 m c) A (Proc.devRef .tc main_v1_1) = A 3 := withArrays_arr spec0 launch0.win.arr_inj c _ A 3
/-- The loss's array, before the tail. -/
theorem arr_loss : withArrays spec0 c (V0 m c) A (Proc.devRef .tc main_v1_2) = A 4 := withArrays_arr spec0 launch0.win.arr_inj c _ A 4

/-- The quantized rows, reshaped. -/
theorem tail_v2 (h : A 2 = fun j : S8192x512.Idx => ((qsum (X (j 0).val) C 8 (j 1) : ℝ) : EReal)) (b : Fin 8) (s : Fin 1024) (d : Fin 512) :
    tailOf m c A main_v2 (ix3 b s d) = ((qsum (X (1024 * b.val + s.val)) C 8 d : ℝ) : EReal) := by
  unfold tailOf
  have e := (arr_quant m c A).trans h
  generalize withArrays spec0 c (V0 m c) A = W at e ⊢
  after_reads_at
  rw [e]
  show ((qsum (X (b.val * 1024 + s.val)) C 8 d : ℝ) : EReal) = _
  rw [mul_comm]

/-- The indices, rows last, reshaped. -/
theorem tail_v4 (h : A 3 = fun j : S16x8x512.Idx => BitVec.ofNat 32 (pick (X (512 * (j 0).val + (j 2).val)) C (j 1).val).val) (b : Fin 8) (s : Fin 1024) (l : Fin 8) :
    tailOf m c A main_v4 (ix3 b s l) = BitVec.ofNat 32 (pick (X (1024 * b.val + s.val)) C l.val).val := by
  unfold tailOf
  have e := (arr_idx m c A).trans h
  generalize withArrays spec0 c (V0 m c) A = W at e ⊢
  after_reads_at
  rw [e]
  have h1 : s.val < 1024 := s.isLt
  have e' : 512 * (b.val * 2 + s.val / 512) + s.val % 512 = 1024 * b.val + s.val := by omega
  show BitVec.ofNat 32 (pick (X (512 * (b.val * 2 + s.val / 512) + s.val % 512)) C l.val).val = _
  rw [e']

/-- The loss, averaged. -/
theorem tail_v7 (h : A 4 = fun _ => ((lossSum X C 128 : ℝ) : EReal)) (j) :
    tailOf m c A main_v7 j = ((lossSum X C 128 / 4194304 / 8 : ℝ) : EReal) := by
  unfold tailOf
  have e := (arr_loss m c A).trans h
  generalize withArrays spec0 c (V0 m c) A = W at e ⊢
  after_reads_at
  rw [e]
  exact avg_eq _

/-- The first input array, read at a row. -/
theorem entry_rows (n : Fin 8192) (d : Fin 512) : V m c main_v0 (ix2 n d)
    = m ((c : Thread nD τ).loc main_arg0) (ix3 (⟨n.val / 1024 % 8, Nat.mod_lt _ (by decide)⟩ : Fin 8) (⟨n.val % 1024, Nat.mod_lt _ (by decide)⟩ : Fin 1024) d) := by
  unfold V V0
  after_reads_at
  have hn : n.val < 8192 := n.isLt
  have e : (⟨n.val / 1024, by omega⟩ : Fin 8) = ⟨n.val / 1024 % 8, Nat.mod_lt _ (by decide)⟩ := Fin.ext (by show n.val / 1024 = n.val / 1024 % 8; omega)
  exact congrArg (fun b => m ((c : Thread nD τ).loc main_arg0) (ix3 b (⟨n.val % 1024, Nat.mod_lt _ (by decide)⟩ : Fin 1024) d)) e

/-- Real arguments give real blocks. -/
theorem good_of_real (h : ArgsReal (m ((c : Thread nD τ).loc main_arg0)) (m ((c : Thread nD τ).loc main_arg1))) :
    Good m (rowsOf (m ((c : Thread nD τ).loc main_arg0))) (booksOf (m ((c : Thread nD τ).loc main_arg1))) c := fun t => by
  have ht : t.val < 128 := Nat.lt_of_lt_of_eq t.isLt N_0
  constructor
  · intro p d
    have hp : p.val < 512 := p.isLt
    rw [tile_at m c t p d (by omega), entry_rows]
    exact h.1 _
  · intro l k d
    rw [books_at, V_main_arg1]
    have e : (⟨l.val % 8, Nat.mod_lt _ (by decide)⟩ : Fin 8) = l := Fin.ext (Nat.mod_eq_of_lt l.isLt)
    show _ = (((m ((c : Thread nD τ).loc main_arg1) (ix3 (⟨l.val % 8, Nat.mod_lt _ (by decide)⟩ : Fin 8) k d)).toReal : ℝ) : EReal)
    rw [e]
    exact h.2 _

end Tail

/-- What a memory's results are, in terms of rows and books. -/
structure ResultsAre (X : ℕ → Row) (C : ℕ → Book) (q : Vec Ideal S8x1024x512 .f32) (i : Vec Ideal S8x1024x8 .i32) (z : Vec Ideal S_ .f32) : Prop where
  quant : ∀ (b : Fin 8) (s : Fin 1024) (d : Fin 512), q (ix3 b s d) = ((qsum (X (1024 * b.val + s.val)) C 8 d : ℝ) : EReal)
  index : ∀ (b : Fin 8) (s : Fin 1024) (l : Fin 8), i (ix3 b s l) = BitVec.ofNat 32 (pick (X (1024 * b.val + s.val)) C l.val).val
  loss : ∀ j, z j = ((lossSum X C 128 / 4194304 / 8 : ℝ) : EReal)

set_option maxHeartbeats 800000 in
/-- The program's run: its arguments unchanged, its counters at zero, its results those of the rows and books. -/
theorem kernel_run : θ_run defs (onTc (τ := τ) (main (F := Ideal))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ (Good m X C c → ResultsAre X C (r.2.mem ((c : Thread nD τ).loc main_v2)) (r.2.mem ((c : Thread nD τ).loc main_v4)) (r.2.mem ((c : Thread nD τ).loc main_v7))))
      ∧ r.2.sem = fun _ => 0) := by
  refine (θ_run defs _ _).mono ?_ (run_to m ρ (rdat m X C) (obligation m X C) (fun c => (rdat m X C c).share_full fun _ => rfl) (fun _ _ => rfl)
    (fun _ _ => rfl) (scratch_in m X C) (scratch_out m X C))
  rintro r ⟨h, hs⟩
  refine ⟨fun c => ?_, hs⟩
  obtain ⟨h1, A, hA, hr⟩ := h c
  have r0 := hr main_arg0 (by exact Pipeline.mem_restRefs_of main_arg0 (by decide) (by decide))
  have r2 := hr main_v2 (by exact Pipeline.mem_restRefs_of main_v2 (by decide) (by decide))
  have r4 := hr main_v4 (by exact Pipeline.mem_restRefs_of main_v4 (by decide) (by decide))
  have r7 := hr main_v7 (by exact Pipeline.mem_restRefs_of main_v7 (by decide) (by decide))
  refine ⟨r0.trans (tail_arg0 m c A), ?_, fun g => ?_⟩
  · have e := h1 1
    rw [(rdat m X C c).ArrAt_in 1 rfl] at e
    exact e.trans (V_main_arg1 m c)
  · rw [r2, r4, r7]
    exact ⟨tail_v2 m X C c A (quant_end m X C c g _ (hA 2)), tail_v4 m X C c A (idx_end m X C c g _ (hA 3)),
      tail_v7 m X C c A (loss_end m X C c g _ (hA 4))⟩

end Cert.Rvq
-- ==== Proof.ReferenceFrame.lean ====
/- The frame of the reference: it ends, with its arguments as they were. -/
module

public import proofs.«01_k».proof.Defs
public import proofs.«01_k».proof.Proof.Gen.ReferenceIdeal
public import Idealize.ShloMosaic.Lib.Claim
public import Idealize.ShloMosaic.Lib.Quiescent

@[expose] public section

noncomputable section

namespace Cert.Proof

open Idealize.ShloMosaic Idealize.SL.Sem Cert.ReferenceIdeal

set_option maxHeartbeats 4000000 in
/-- The reference leaves both of its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  hlo_run
  · exact fun _ => ⟨trivial, trivial⟩
  · exact sem_eq_zero_of_no_sems (sig := sig) (by decide) _

end Cert.Proof

end
-- ==== Proof.Finite.lean ====
/- What the precondition says: every entry of both arguments is a real number. -/
module

public import proofs.«01_k».proof.Pre_finite
public import proofs.«01_k».proof.Proof.KernelEnd
public import Idealize.ShloMosaic.Lib.Pointwise

@[expose] public section

noncomputable section

namespace Cert.Rvq

open Idealize.ShloMosaic Idealize.ShloMosaic.Tactic

/-- An index of three axes is the one of its three numbers. -/
theorem idx3_eta {n0 n1 n2 : ℕ} (j : (⟨3, ![n0, n1, n2]⟩ : Shape).Idx) : j = ix3 (j 0) (j 1) (j 2) := by
  funext a
  match a with
  | ⟨0, _⟩ => rfl
  | ⟨1, _⟩ => rfl
  | ⟨2, _⟩ => rfl

/-- A conjunction of bits that is one has only ones. -/
theorem fold_and_one {ι : Type} (s : Finset ι) (f : ι → BitVec 1) (b : BitVec 1) (h : s.fold IntOp.andi b f = 1#1) : ∀ i ∈ s, f i = 1#1 := by
  classical
  have both : ∀ a c : BitVec 1, IntOp.andi a c = 1#1 → a = 1#1 ∧ c = 1#1 := by decide
  induction s using Finset.induction_on with
  | empty => exact fun i hi => absurd hi (Finset.notMem_empty i)
  | insert a s ha ih =>
    rw [Finset.fold_insert ha] at h
    intro i hi
    rcases Finset.mem_insert.mp hi with rfl | hi
    · exact (both _ _ h).1
    · exact ih (both _ _ h).2 i hi

/-- The same over all of a finite type. -/
theorem fold_and_all {ι : Type} [Fintype ι] (f : ι → BitVec 1) (b : BitVec 1) (h : Finset.univ.fold IntOp.andi b f = 1#1) (i : ι) : f i = 1#1 :=
  fold_and_one _ f b h i (Finset.mem_univ i)

/-- An extended real whose absolute value is below the greatest is a real. -/
theorem real_of_bit (a : Ideal .f32) [Decidable (FloatOps.absf a < Ideal.ofBits FTy.f32 2139095040#32)] (h : BitVec.ofBool (decide (FloatOps.absf a < Ideal.ofBits FTy.f32 2139095040#32)) = 1#1) :
    a = ((EReal.toReal a : ℝ) : EReal) := by
  have h' : max (a : EReal) (-a) < ⊤ := by
    rw [← top_bits]
    by_contra hn
    have hn' : ¬FloatOps.absf a < Ideal.ofBits FTy.f32 2139095040#32 := hn
    rw [decide_eq_false hn'] at h
    exact absurd h (by decide)
  have h1 := max_lt_iff.mp h'
  refine (EReal.coe_toReal h1.1.ne fun hb => ?_).symm
  rw [hb, EReal.neg_bot] at h1
  exact lt_irrefl _ h1.2

/-- The precondition, entry by entry. -/
theorem finite_reads [Cert.Pre_finite.Facts] (x : Vec Ideal Cert.Pre_finite.S8x1024x512 .f32) (cb : Vec Ideal Cert.Pre_finite.S8x2048x512 .f32)
    (h : Cert.Pre_finite.fn (F := Ideal) x cb = fun _ => 1#1) : ArgsReal x cb := by
  have e := congrFun h ix0
  unfold Cert.Pre_finite.fn at e
  pointwise at e
  have both : ∀ a c : BitVec 1, IntOp.andi a c = 1#1 → a = 1#1 ∧ c = 1#1 := by decide
  have e' := both _ _ e
  constructor
  · intro j
    have hj : j = ix3 (j 0) (j 1) (j 2) := idx3_eta j
    rw [hj]
    let p : Fin 8 × Fin 1024 × Fin 512 := (j 0, j 1, j 2)
    have b := fold_and_all _ _ e'.1 p
    exact real_of_bit _ b
  · intro j
    have hj : j = ix3 (j 0) (j 1) (j 2) := idx3_eta j
    rw [hj]
    let p : Fin 8 × Fin 2048 × Fin 512 := (j 0, j 1, j 2)
    have b := fold_and_all _ _ e'.2 p
    exact real_of_bit _ b

end Cert.Rvq

end
-- ==== Proof.RefLevel.lean ====
/- What one level of the reference does to whole arrays. -/
module

public import proofs.«01_k».proof.Defs
public import proofs.«01_k».proof.Proof.Gen.ReferenceIdeal
public import Idealize.ShloMosaic.PureOps.Ideal

@[expose] public section

noncomputable section

namespace Cert.Rvq.Ref

open Idealize.ShloMosaic Cert.ReferenceIdeal Cert.ReferenceIdeal.Facts₀ Cert.ReferenceIdeal.Facts

/-- The codebook of one level, cut out of the array of all of them. -/
abbrev bookA (cb : Vec Ideal S8x2048x512 .f32) (off : Fin 3 → ℕ) (h : Shape.Slices S8x2048x512 off S1x2048x512) : Vec Ideal S2048x512 .f32 :=
  shapeCast S2048x512 (extractStridedSlice S1x2048x512 off cb h) shapeCasts_S1x2048x512_S2048x512

/-- The distances of every row to every codeword, up to what the program adds in which order. -/
def distA (r : Vec Ideal S8x1024x512 .f32) (b : Vec Ideal S2048x512 .f32) : Vec Ideal S8x1024x2048 .f32 :=
  addf
    (subf
      (broadcastInDim S8x1024x2048 ![0, 1, 2] bcast_S8x1024x1_S8x1024x2048_0_1_2
        (broadcastInDim S8x1024x1 ![0, 1] bcast_S8x1024_S8x1024x1_0_1
          (Host.reduceAdd (mulf r r) (constant (F := Ideal) S_ .f32 0x00000000#32) reducesTo_S8x1024x512_S8x1024_d2 h_S_)))
      (mulf (broadcastInDim S8x1024x2048 ![] bcast_S_S8x1024x2048 (constant (F := Ideal) S_ .f32 0x40000000#32))
        (Host.dotGeneral (F := Ideal) (φ₁ := .f32) (φ₂ := .f32) dot_S8x1024x512_S512x2048_S8x1024x2048_2_0_01_1_n_n none r
          (transpose S512x2048 [1, 0] b transposes_S2048x512_S512x2048_1_0))))
    (broadcastInDim S8x1024x2048 ![0, 1, 2] bcast_S1x1x2048_S8x1024x2048_0_1_2
      (broadcastInDim S1x1x2048 ![2] bcast_S2048_S1x1x2048_2
        (Host.reduceAdd (mulf b b) (constant (F := Ideal) S_ .f32 0x00000000#32) reducesTo_S2048x512_S2048_d1 h_S_)))

/-- The position of the least distance of every row. -/
def argA (d : Vec Ideal S8x1024x2048 .f32) : Vec Ideal S8x1024 .i32 := fun j =>
  (Host.argReduce reducer_argmin_f32_i32 d (iotaInDim S8x1024x2048 32 2) (constant (F := Ideal) S_ .f32 0x7F800000#32)
    (constantI S_ 32 0#32) reducesTo_S8x1024x2048_S8x1024_d2 h_S_ j).2

/-- A position counted from the end, when it is negative, made one counted from the start; with a last axis of one. -/
def startA (i : Vec Ideal S8x1024 .i32) : Vec Ideal S8x1024x1 .i32 :=
  broadcastInDim S8x1024x1 ![0, 1] bcast_S8x1024_S8x1024x1_0_1
    (select (cmpi .slt i (broadcastInDim S8x1024 ![] bcast_S_S8x1024 (constantI S_ 32 0#32)))
      (addi i (broadcastInDim S8x1024 ![] bcast_S_S8x1024 (constantI S_ 32 2048#32))) i)

/-- Whether a position lies inside the codebook. -/
def insideA (k : Vec Ideal S8x1024x1 .i32) : Vec Ideal S8x1024 .i1 :=
  Host.reduce IntOp.andi
    (andi (cmpi .sge k (broadcastInDim S8x1024x1 ![] bcast_S_S8x1024x1 (constantI S_ 32 0#32)))
      (cmpi .sle k (broadcastInDim S8x1024x1 ![0, 1, 2] bcast_S1x1x1_S8x1024x1_0_1_2
        (broadcastInDim S1x1x1 ![2] bcast_S1_S1x1x1_2 (constantI S1 32 2047#32)))))
    (constantI S_ 1 1#1) reducesTo_S8x1024x1_S8x1024_d2 h_S_

/-- The codewords at the given positions. -/
def takeA (b : Vec Ideal S2048x512 .f32) (i : Vec Ideal S8x1024 .i32) : Vec Ideal S8x1024x512 .f32 :=
  select (broadcastInDim S8x1024x512 ![0, 1] bcast_S8x1024_S8x1024x512_0_1 (insideA (startA i)))
    (Host.gather gather_S2048x512_S8x1024x1_S8x1024x512_2_0_n_n_0_2_1512 b (startA i))
    (broadcastInDim S8x1024x512 ![] bcast_S_S8x1024x512 (constant (F := Ideal) S_ .f32 0x7FC00000#32))

/-- The codewords that one level chooses for the residuals `r`. -/
def chosenA (r : Vec Ideal S8x1024x512 .f32) (b : Vec Ideal S2048x512 .f32) : Vec Ideal S8x1024x512 .f32 := takeA b (argA (distA r b))

/-- The difference of two arrays. -/
abbrev subA (x y : Vec Ideal S8x1024x512 .f32) : Vec Ideal S8x1024x512 .f32 := (subf x y : FVec Ideal S8x1024x512 .f32)

/-- The sum of two arrays. -/
abbrev addA (x y : Vec Ideal S8x1024x512 .f32) : Vec Ideal S8x1024x512 .f32 := (addf x y : FVec Ideal S8x1024x512 .f32)

/-- The mean of the squares of an array. -/
def meanA (e : Vec Ideal S8x1024x512 .f32) : Vec Ideal S_ .f32 :=
  Host.divf (Host.reduceAdd (mulf e e) (constant (F := Ideal) S_ .f32 0x00000000#32) reducesTo_S8x1024x512_S_d0_1_2 h_S_)
    (constant (F := Ideal) S_ .f32 0x4A800000#32)

/-- The loss after one more level. -/
def lossA (z : Vec Ideal S_ .f32) (e : Vec Ideal S8x1024x512 .f32) : Vec Ideal S_ .f32 :=
  addf (addf z (mulf (meanA e) (constant (F := Ideal) S_ .f32 0x3E800000#32))) (meanA e)

end Cert.Rvq.Ref

end
-- ==== Proof.RefLine.lean ====
/- The reference's operations as one list, and that list cut at the levels. -/
module

public import proofs.«01_k».proof.Defs
public import proofs.«01_k».proof.Proof.Gen.ReferenceIdeal
public import proofs.«01_k».proof.Proof.RefLevel
public import Idealize.ShloMosaic.PureOps.Ideal
public import Idealize.ShloMosaic.Lib.Claim
public import Idealize.ShloMosaic.Lib.Quiescent
public import Idealize.ShloMosaic.Lib.StableHlo.RunRead

@[expose] public section

noncomputable section

namespace Cert.Rvq.Ref

open Idealize.ShloMosaic Idealize.SL.Sem Cert.ReferenceIdeal Cert.ReferenceIdeal.Facts₀ Cert.ReferenceIdeal.Facts

/-- An operation of the reference at the ideal values. -/
abbrev Op := HloOp τ sig (Elt Ideal)

/-- A list of operations together with the fact that it is the reference's program. -/
abbrev Line := {ops : List Op // ∀ d, StableHlo.IsSeq (main (F := Ideal) d) ops}

/-- A list and its fact, as one. -/
abbrev lineOf {ops : List Op} (h : ∀ d, StableHlo.IsSeq (main (F := Ideal) d) ops) : Line := ⟨ops, h⟩

set_option maxHeartbeats 4000000 in
/-- The operations of the reference in their order. -/
def line : Line := by
  apply lineOf
  hlo_seq

/-- The reference has 536 operations. -/
theorem line_length : line.1.length = 536 := rfl

/-- The operations from the `a`-th on, `n` of them. -/
def seg (a n : ℕ) : List Op := (line.1.drop a).take n

/-- The operations of one level: the first has one more, the zero that the loss starts from. -/
def levelOps : ℕ → List Op
  | 0 => seg 2 66
  | l + 1 => seg (68 + 65 * l) 65

/-- The residuals before a level. -/
def resOf : ℕ → Valuation τ sig (Elt Ideal) → Vec Ideal S8x1024x512 .f32
  | 0, V => V (Proc.devRef .tc main_arg0)
  | 1, V => V (Proc.devRef .tc main_v31)
  | 2, V => V (Proc.devRef .tc main_v62)
  | 3, V => V (Proc.devRef .tc main_v93)
  | 4, V => V (Proc.devRef .tc main_v124)
  | 5, V => V (Proc.devRef .tc main_v155)
  | 6, V => V (Proc.devRef .tc main_v186)
  | 7, V => V (Proc.devRef .tc main_v217)
  | _, V => V (Proc.devRef .tc main_v248)

/-- The sum of the chosen codewords before a level. -/
def sumOf : ℕ → Valuation τ sig (Elt Ideal) → Vec Ideal S8x1024x512 .f32
  | 0, V => V (Proc.devRef .tc main_v0)
  | 1, V => V (Proc.devRef .tc main_v19)
  | 2, V => V (Proc.devRef .tc main_v50)
  | 3, V => V (Proc.devRef .tc main_v81)
  | 4, V => V (Proc.devRef .tc main_v112)
  | 5, V => V (Proc.devRef .tc main_v143)
  | 6, V => V (Proc.devRef .tc main_v174)
  | 7, V => V (Proc.devRef .tc main_v205)
  | _, V => V (Proc.devRef .tc main_v236)

/-- The loss before a level. -/
def lossOf : ℕ → Valuation τ sig (Elt Ideal) → Vec Ideal S_ .f32
  | 0, _ => (constant (F := Ideal) S_ .f32 0x00000000#32 : Vec Ideal S_ .f32)
  | 1, V => V (Proc.devRef .tc main_v30)
  | 2, V => V (Proc.devRef .tc main_v61)
  | 3, V => V (Proc.devRef .tc main_v92)
  | 4, V => V (Proc.devRef .tc main_v123)
  | 5, V => V (Proc.devRef .tc main_v154)
  | 6, V => V (Proc.devRef .tc main_v185)
  | 7, V => V (Proc.devRef .tc main_v216)
  | _, V => V (Proc.devRef .tc main_v247)

/-- The positions that a level chooses. -/
def idxOf : ℕ → Valuation τ sig (Elt Ideal) → Vec Ideal S8x1024 .i32
  | 0, V => V (Proc.devRef .tc main_v17)
  | 1, V => V (Proc.devRef .tc main_v48)
  | 2, V => V (Proc.devRef .tc main_v79)
  | 3, V => V (Proc.devRef .tc main_v110)
  | 4, V => V (Proc.devRef .tc main_v141)
  | 5, V => V (Proc.devRef .tc main_v172)
  | 6, V => V (Proc.devRef .tc main_v203)
  | _, V => V (Proc.devRef .tc main_v234)

/-- The codebook of a level. -/
def bookOf : ℕ → Valuation τ sig (Elt Ideal) → Vec Ideal S2048x512 .f32
  | 0, V => bookA (V (Proc.devRef .tc main_arg1)) ![0, 0, 0] slices_S8x2048x512_S1x2048x512_0_0_0
  | 1, V => bookA (V (Proc.devRef .tc main_arg1)) ![1, 0, 0] slices_S8x2048x512_S1x2048x512_1_0_0
  | 2, V => bookA (V (Proc.devRef .tc main_arg1)) ![2, 0, 0] slices_S8x2048x512_S1x2048x512_2_0_0
  | 3, V => bookA (V (Proc.devRef .tc main_arg1)) ![3, 0, 0] slices_S8x2048x512_S1x2048x512_3_0_0
  | 4, V => bookA (V (Proc.devRef .tc main_arg1)) ![4, 0, 0] slices_S8x2048x512_S1x2048x512_4_0_0
  | 5, V => bookA (V (Proc.devRef .tc main_arg1)) ![5, 0, 0] slices_S8x2048x512_S1x2048x512_5_0_0
  | 6, V => bookA (V (Proc.devRef .tc main_arg1)) ![6, 0, 0] slices_S8x2048x512_S1x2048x512_6_0_0
  | _, V => bookA (V (Proc.devRef .tc main_arg1)) ![7, 0, 0] slices_S8x2048x512_S1x2048x512_7_0_0

/-- What level `l` makes of the buffers: `V` before it, `W` after it. -/
structure Does (l : ℕ) (V W : Valuation τ sig (Elt Ideal)) : Prop where
  arg0 : W (Proc.devRef .tc main_arg0) = V (Proc.devRef .tc main_arg0)
  arg1 : W (Proc.devRef .tc main_arg1) = V (Proc.devRef .tc main_arg1)
  res : resOf (l + 1) W = subA (resOf l V) (chosenA (resOf l V) (bookOf l V))
  sum : sumOf (l + 1) W = addA (sumOf l V) (chosenA (resOf l V) (bookOf l V))
  loss : lossOf (l + 1) W = lossA (lossOf l V) (subA (resOf l V) (chosenA (resOf l V) (bookOf l V)))
  idx : idxOf l W = argA (distA (resOf l V) (bookOf l V))
  old : ∀ k < l, idxOf k W = idxOf k V

set_option maxHeartbeats 40000000 in
/-- Every level does what a level does. -/
theorem level_does (l : ℕ) (hl : l < 8) (V : Valuation τ sig (Elt Ideal)) : Does l V (StableHlo.after (levelOps l) V) := by
  interval_cases l <;> refine ⟨?_, ?_, ?_, ?_, ?_, ?_, ?_⟩
  all_goals
    first
    | (intro k hk
       interval_cases k <;> (simp only [idxOf]; after_reads_simp))
    | (try simp only [resOf, sumOf, lossOf, idxOf, bookOf]
       after_reads_simp
       try simp -implicitDefEqProofs only [StableHlo.TRef.toBuf, StableHlo.TRef.ofBuf, cast_cast, cast_eq]
       try rfl)

end Cert.Rvq.Ref

end
-- ==== Proof.RefEnd.lean ====
/- What the reference's last operations leave in its results, and the run of the whole reference. -/
module

public import proofs.«01_k».proof.Defs
public import proofs.«01_k».proof.Proof.Gen.ReferenceIdeal
public import proofs.«01_k».proof.Proof.RefLine
public import Idealize.ShloMosaic.PureOps.Ideal
public import Idealize.ShloMosaic.Lib.Claim
public import Idealize.ShloMosaic.Lib.Quiescent
public import Idealize.ShloMosaic.Lib.StableHlo.RunRead

@[expose] public section

noncomputable section

namespace Cert.Rvq.Ref

open Idealize.ShloMosaic Idealize.SL.Sem Cert.ReferenceIdeal Cert.ReferenceIdeal.Facts₀ Cert.ReferenceIdeal.Facts

/-- The operations before the first level. -/
def openingOps : List Op := seg 0 2

/-- The operations after the last level. -/
def closingOps : List Op := seg 523 13

/-- The eight levels' positions side by side. -/
def indicesA (i : ℕ → Vec Ideal S8x1024 .i32) : Vec Ideal S8x1024x8 .i32 :=
  let b (k : ℕ) : Vec Ideal S8x1024x1 .i32 := broadcastInDim S8x1024x1 ![0, 1] bcast_S8x1024_S8x1024x1_0_1 (i k)
  concatenate S8x1024x8 2 [⟨S8x1024x1, b 0⟩, ⟨S8x1024x1, b 1⟩, ⟨S8x1024x1, b 2⟩, ⟨S8x1024x1, b 3⟩, ⟨S8x1024x1, b 4⟩,
    ⟨S8x1024x1, b 5⟩, ⟨S8x1024x1, b 6⟩, ⟨S8x1024x1, b 7⟩] concatenates_S8x1024x1_S8x1024x1_S8x1024x1_S8x1024x1_S8x1024x1_S8x1024x1_S8x1024x1_S8x1024x1_S8x1024x8_d2

variable (V : Valuation τ sig (Elt Ideal))

/-- The opening leaves the first argument. -/
theorem opening_arg0 : StableHlo.after openingOps V (Proc.devRef .tc main_arg0) = V (Proc.devRef .tc main_arg0) := by
  after_reads_simp

/-- The opening leaves the second argument. -/
theorem opening_arg1 : StableHlo.after openingOps V (Proc.devRef .tc main_arg1) = V (Proc.devRef .tc main_arg1) := by
  after_reads_simp

/-- The opening makes the sum of the chosen codewords zero. -/
theorem opening_sum : sumOf 0 (StableHlo.after openingOps V)
    = (broadcastInDim S8x1024x512 ![] bcast_S_S8x1024x512 (constant (F := Ideal) S_ .f32 0x00000000#32) : Vec Ideal S8x1024x512 .f32) := by
  simp only [sumOf]
  after_reads_simp

/-- The closing leaves the first argument. -/
theorem closing_arg0 : StableHlo.after closingOps V (Proc.devRef .tc main_arg0) = V (Proc.devRef .tc main_arg0) := by
  after_reads_simp

/-- The closing leaves the second argument. -/
theorem closing_arg1 : StableHlo.after closingOps V (Proc.devRef .tc main_arg1) = V (Proc.devRef .tc main_arg1) := by
  after_reads_simp

/-- The first result: the first argument, plus what the sum differs from it by. -/
theorem closing_quant : StableHlo.after closingOps V (Proc.devRef .tc main_v250)
    = addA (resOf 0 V) (subA (sumOf 8 V) (resOf 0 V)) := by
  simp only [sumOf, resOf]
  after_reads_simp

/-- The second result: the levels' positions side by side. -/
theorem closing_index : StableHlo.after closingOps V (Proc.devRef .tc main_v259) = indicesA fun k => idxOf k V := by
  simp only [idxOf, indicesA]
  after_reads_simp
  rfl

/-- The third result: the loss over the number of levels. -/
theorem closing_loss : StableHlo.after closingOps V (Proc.devRef .tc main_v260)
    = (Host.divf (lossOf 8 V : FVec Ideal S_ .f32) (constant (F := Ideal) S_ .f32 0x41000000#32) : FVec Ideal S_ .f32) := by
  simp only [lossOf]
  after_reads_simp

/-- The buffers before level `l`, from those at the start. -/
def before : ℕ → Valuation τ sig (Elt Ideal)
  | 0 => StableHlo.after openingOps V
  | l + 1 => StableHlo.after (levelOps l) (before l)

/-- The reference is its opening, its eight levels and its closing. -/
theorem line_cut : line.1 = openingOps ++ (levelOps 0 ++ (levelOps 1 ++ (levelOps 2 ++ (levelOps 3 ++ (levelOps 4
    ++ (levelOps 5 ++ (levelOps 6 ++ (levelOps 7 ++ closingOps)))))))) := rfl

/-- The whole list leaves what the closing leaves after the eight levels. -/
theorem after_line : StableHlo.after line.1 V = StableHlo.after closingOps (before V 8) := by
  rw [line_cut]
  simp only [StableHlo.after_append, before]

set_option maxHeartbeats 4000000 in
/-- The reference ends with what its list of operations leaves in every buffer, and every counter at zero. -/
theorem line_run (m : (ℓ : Loc nD τ sig) → Buf (Elt Ideal) ℓ) (g : Dev nD → PrngReg) :
    θ_run (defs (F := Ideal)) (onTc (τ := τ) (main (F := Ideal))) ⟨m, fun _ => 0, g⟩ (fun r => ∀ (d : Dev nD) (b : Ref sig .tc),
      r.2.mem ((d.tc : Thread nD τ).loc b) = StableHlo.after line.1 (StableHlo.launchContents m d) (Proc.devRef .tc b)) :=
  StableHlo.run_hlo _ _ line.2 (by decide) (by decide) (by unfold line; simp)
    (by unfold line; intro _ h; (repeat (cases h with | head => rfl | tail _ h => ?_)); exact nomatch h) m g

end Cert.Rvq.Ref

end
-- ==== Proof.RefValues.lean ====
/- What one level of the reference does to arrays of reals, in the terms of the mathematics. -/
module

public import proofs.«01_k».proof.Proof.RefLevel
public import proofs.«01_k».proof.Proof.Spec
public import proofs.«01_k».proof.Proof.Payload
public import Idealize.ShloMosaic.Lib.Pointwise

@[expose] public section

set_option maxRecDepth 16384

noncomputable section

namespace Cert.Rvq.Ref

open Idealize.ShloMosaic Idealize.ShloMosaic.Tactic Cert.ReferenceIdeal Cert.ReferenceIdeal.Facts₀ Cert.ReferenceIdeal.Facts

/-- An array of residuals whose entries are the reals `R`. -/
def Rows (r : Vec Ideal S8x1024x512 .f32) (R : Fin 8 → Fin 1024 → Row) : Prop := ∀ b s d, r (ix3 b s d) = ((R b s d : ℝ) : EReal)

/-- A codebook whose entries are the reals `B`. -/
def IsBook (b : Vec Ideal S2048x512 .f32) (B : Book) : Prop := ∀ k d, b (ix2 k d) = ((B k d : ℝ) : EReal)

/-- The word of zero. -/
theorem zero_bits : Ideal.ofBits FTy.f32 0#32 = (0 : EReal) := by simp [Ideal.ofBits, Ideal.ieee]

/-! ## The distances -/

/-- A distance, entry by entry. -/
theorem distA_at (r : Vec Ideal S8x1024x512 .f32) (b : Vec Ideal S2048x512 .f32) (i : Fin 8) (s : Fin 1024) (k : Fin 2048) :
    distA r b (ix3 i s k) = ((∑ d : Fin 512, r (ix3 i s d) * r (ix3 i s d)) - ((2 : ℝ) : EReal) * ∑ d : Fin 512, r (ix3 i s d) * b (ix2 k d))
      + ∑ d : Fin 512, b (ix2 k d) * b (ix2 k d) := by
  pointwise [distA]
  simp only [two_bits, zero_bits, zero_add]

/-- With real entries, a distance is the real one. -/
theorem distA_real {r : Vec Ideal S8x1024x512 .f32} {R : Fin 8 → Fin 1024 → Row} {b : Vec Ideal S2048x512 .f32} {B : Book}
    (hr : Rows r R) (hb : IsBook b B) (i : Fin 8) (s : Fin 1024) (k : Fin 2048) : distA r b (ix3 i s k) = ((dist (R i s) B k : ℝ) : EReal) := by
  rw [distA_at]
  simp only [hr i s _, hb k _, ← EReal.coe_mul, ← coe_sum, ← EReal.coe_sub, ← EReal.coe_add]
  rfl

/-! ## The least distance's position -/

/-- A fold that ends at `T`, once it has met `T`, whatever the order. -/
theorem foldl_meets {α : Type*} (f : α → α → α) (T : α) (G : α → Prop) (hl : ∀ a, G a → f T a = T) (hr : ∀ a, G a → f a T = T)
    (hG : ∀ a b, G a → G b → G (f a b)) (L : List α) (a : α) (ha : G a) (hL : ∀ x ∈ L, G x) (h : a = T ∨ T ∈ L) : L.foldl f a = T := by
  induction L generalizing a with
  | nil => exact h.resolve_right List.not_mem_nil
  | cons x L ih =>
    have hx := hL x List.mem_cons_self
    refine ih _ (hG a x ha hx) (fun y hy => hL y (List.mem_cons_of_mem _ hy)) ?_
    rcases h with rfl | h
    · exact Or.inl (hl x hx)
    · rcases List.mem_cons.mp h with rfl | h
      · exact Or.inl (hr a ha)
      · exact Or.inr h

/-- A pair that comes after `T` or is `T`: farther, or as far and later. -/
def After (T p : EReal × BitVec 32) : Prop := p = T ∨ T.1 < p.1 ∨ (T.1 = p.1 ∧ T.2.slt p.2 = true)

/-- The reference's choice between two pairs. -/
abbrev choose : EReal × BitVec 32 → EReal × BitVec 32 → EReal × BitVec 32 := reducer_argmin_f32_i32 (F := Ideal)

/-- The choice, spelt out. -/
theorem choose_eq (a b : EReal × BitVec 32) :
    choose a b = if a.1 < b.1 then a else if a.1 = b.1 then (b.1, if a.2.slt b.2 = true then a.2 else b.2) else b := by
  obtain ⟨a1, a2⟩ := a
  obtain ⟨b1, b2⟩ := b
  show (_, _) = _
  by_cases h : a1 < b1
  · simp [Ideal.cmpf_def, Ideal.cmp, Scalar.select, IntOp.ori, IntOp.andi, IntOp.cmpi, h, h.ne]
  · by_cases e : a1 = b1
    · subst e
      cases hs : a2.slt b2 <;> simp [Ideal.cmpf_def, Ideal.cmp, Scalar.select, IntOp.ori, IntOp.andi, IntOp.cmpi, hs]
    · simp [Ideal.cmpf_def, Ideal.cmp, Scalar.select, IntOp.ori, IntOp.andi, IntOp.cmpi, h, e]

/-- The choice is one of the two. -/
theorem choose_or (a b : EReal × BitVec 32) : choose a b = a ∨ choose a b = b := by
  rw [choose_eq]
  split_ifs with h1 h2 h3
  · exact Or.inl rfl
  · exact Or.inl (Prod.ext h2.symm rfl)
  · exact Or.inr rfl
  · exact Or.inr rfl

/-- Words are not before each other both ways. -/
theorem slt_asymm' {a b : BitVec 32} (h : a.slt b = true) : ¬ b.slt a = true := by
  rw [BitVec.slt_iff_toInt_lt] at h ⊢
  omega

/-- `T` before a pair after it. -/
theorem choose_left (T a : EReal × BitVec 32) (h : After T a) : choose T a = T := by
  rw [choose_eq]
  rcases h with rfl | h | ⟨h, h'⟩
  · simp
  · rw [if_pos h]
  · rw [if_neg h.not_lt, if_pos h, if_pos h', ← h]

/-- A pair after `T`, and then `T`. -/
theorem choose_right (T a : EReal × BitVec 32) (h : After T a) : choose a T = T := by
  rw [choose_eq]
  rcases h with rfl | h | ⟨h, h'⟩
  · simp
  · rw [if_neg h.not_gt, if_neg h.ne']
  · rw [if_neg h.symm.not_lt, if_pos h.symm, if_neg (slt_asymm' h')]

/-- Numbers of codewords are ordered as words are. -/
theorem ofNat_slt {j k : Fin 2048} (h : j < k) : (BitVec.ofNat 32 j.val).slt (BitVec.ofNat 32 k.val) = true := by
  have hj := j.isLt
  have hk := k.isLt
  have hl : j.val < k.val := h
  rw [BitVec.slt_iff_toInt_lt, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- What a reduction over pairs runs over: the pairs at the positions that drop to `j`. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    exact ⟨s.rowMajor i, List.mem_filter.mpr ⟨List.mem_finRange _, decide_eq_true (by rw [Equiv.symm_apply_apply]; exact hi)⟩,
      by rw [Equiv.symm_apply_apply]⟩

/-- The choice over a list of the pairs of distances and numbers is the best codeword's pair. -/
theorem foldl_best (r : Row) (B : Book) (L : List (EReal × BitVec 32)) (a : EReal × BitVec 32) (ha : a.1 = ⊤)
    (hL : ∀ x ∈ L, ∃ k : Fin 2048, x = (((dist r B k : ℝ) : EReal), BitVec.ofNat 32 k.val))
    (hb : (((dist r B (best r B) : ℝ) : EReal), BitVec.ofNat 32 (best r B).val) ∈ L) :
    L.foldl choose a = (((dist r B (best r B) : ℝ) : EReal), BitVec.ofNat 32 (best r B).val) := by
  refine foldl_meets choose _ (After _) (choose_left _) (choose_right _) (fun a b ha hb => ?_) _ _ ?_ (fun x hx => ?_) (Or.inr hb)
  · rcases choose_or a b with e | e <;> rw [e] <;> assumption
  · exact Or.inr (Or.inl (by rw [ha]; exact EReal.coe_lt_top _))
  · obtain ⟨k, rfl⟩ := hL x hx
    rcases lt_or_eq_of_le (best_le r B k) with h | h
    · exact Or.inr (Or.inl (EReal.coe_lt_coe_iff.mpr h))
    · rcases lt_or_eq_of_le (best_first r B k h.symm) with h' | h'
      · exact Or.inr (Or.inr ⟨congrArg Real.toEReal h, ofNat_slt h'⟩)
      · exact Or.inl (by rw [← h'])

/-- A choice along the last of three axes, when the entries are distances and their numbers, gives the best codeword's number. -/
theorem argReduce_best {n0 n1 : ℕ} {t u : Shape} (f : EReal × BitVec 32 → EReal × BitVec 32 → EReal × BitVec 32) (hf : f = choose)
    (x : FVec Ideal ⟨3, ![n0, n1, 2048]⟩ .f32) (y : IVec ⟨3, ![n0, n1, 2048]⟩ 32) (ix : FVec Ideal u .f32) (iy : IVec u 32)
    (h : (⟨3, ![n0, n1, 2048]⟩ : Shape).ReducesTo [2] t) (hu : 0 < u.numel) (j : t.Idx) (r : Row) (B : Book) (p : Fin n0) (q : Fin n1)
    (hp : (j ⟨0, h.lt_r3_a2_0⟩).val = p.val) (hq : (j ⟨1, h.lt_r3_a2_1⟩).val = q.val) (hi : ∀ i, ix i = ⊤)
    (hx : ∀ k : Fin 2048, x (ix3 p q k) = ((dist r B k : ℝ) : EReal)) (hy : ∀ k : Fin 2048, y (ix3 p q k) = BitVec.ofNat 32 k.val) :
    (Host.argReduce f x y ix iy h hu j).2 = BitVec.ofNat 32 (best r B).val := by
  subst hf
  have e : ∀ i, h.drop i = j ↔ ∃ k : Fin 2048, ix3 p q k = i := fun i => by
    rw [h.fiber_r3_a2 j i]
    simp only [hp, hq]
  rw [Ideal.argReduce_eq_reduce2, Host.reduce2_eq_foldl_fiber]
  refine congrArg Prod.snd (foldl_best r B _ _ (hi _) (fun z hz => ?_) ?_)
  · rw [mem_fiber] at hz
    obtain ⟨n, hn, rfl⟩ := hz
    obtain ⟨k, rfl⟩ := (e n).mp hn
    exact ⟨k, Prod.ext (hx k) (hy k)⟩
  · have h1 := hx (best r B)
    have h2 := hy (best r B)
    have h3 := (e (ix3 p q (best r B))).mpr ⟨_, rfl⟩
    generalize best r B = K at h1 h2 h3 ⊢
    rw [mem_fiber]
    exact ⟨_, h3, Prod.ext h1.symm h2.symm⟩

/-- The file's reducer of pairs is the choice. -/
theorem reducer_is : reducer_argmin_f32_i32 (F := Ideal) = choose := rfl

/-- The reduction starts from the greatest value. -/
theorem start_top (i : S_.Idx) : constant (F := Ideal) S_ .f32 0x7F800000#32 i = ⊤ := top_bits

/-- The numbers along the last axis. -/
theorem number_at (i : Fin 8) (s : Fin 1024) (k : Fin 2048) : (iotaInDim S8x1024x2048 32 2) (ix3 i s k) = BitVec.ofNat 32 k.val := rfl

/-- The position that is read, once the entries are distances. -/
theorem argReduce_at (D : Vec Ideal S8x1024x2048 .f32) (i : Fin 8) (s : Fin 1024) (r : Row) (B : Book)
    (hd : ∀ k, D (ix3 i s k) = ((dist r B k : ℝ) : EReal)) :
    (Host.argReduce reducer_argmin_f32_i32 D (iotaInDim S8x1024x2048 32 2) (constant (F := Ideal) S_ .f32 0x7F800000#32)
      (constantI S_ 32 0#32) reducesTo_S8x1024x2048_S8x1024_d2 h_S_ (ix2 i s)).2 = BitVec.ofNat 32 (best r B).val :=
  argReduce_best _ reducer_is D _ _ _ _ _ (ix2 i s) r B i s rfl rfl start_top hd (number_at i s)

/-- The position of the least distance, written out. -/
theorem argA_is (D : Vec Ideal S8x1024x2048 .f32) :
    argA D = fun j => (Host.argReduce reducer_argmin_f32_i32 D (iotaInDim S8x1024x2048 32 2) (constant (F := Ideal) S_ .f32 0x7F800000#32)
      (constantI S_ 32 0#32) reducesTo_S8x1024x2048_S8x1024_d2 h_S_ j).2 := by
  delta argA
  rfl

/-- An array of codewords' numbers whose entries are `K`. -/
def Nums (a : Vec Ideal S8x1024 .i32) (K : Fin 8 → Fin 1024 → Fin 2048) : Prop := ∀ i s, a (ix2 i s) = BitVec.ofNat 32 (K i s).val

/-- With real entries, the position of a row's least distance is the best codeword's number. -/
theorem argA_real {r : Vec Ideal S8x1024x512 .f32} {R : Fin 8 → Fin 1024 → Row} {b : Vec Ideal S2048x512 .f32} {B : Book}
    (hr : Rows r R) (hb : IsBook b B) : Nums (argA (distA r b)) fun i s => best (R i s) B := by
  rw [argA_is]
  exact fun i s => argReduce_at _ i s (R i s) B (distA_real hr hb i s)

end Cert.Rvq.Ref

end
-- ==== Proof.RefTake.lean ====
/- What one level of the reference takes, when the codebook is real and the positions are codewords' numbers. -/
module

public import proofs.«01_k».proof.Proof.RefValues

@[expose] public section

set_option maxRecDepth 16384

noncomputable section

namespace Cert.Rvq.Ref

open Idealize.ShloMosaic Idealize.ShloMosaic.Tactic Cert.ReferenceIdeal Cert.ReferenceIdeal.Facts₀ Cert.ReferenceIdeal.Facts

/-! ## Rows of a table at an array of positions -/

/-- The dimension numbers of a take of whole rows of `[N, C]` at the positions `[R, S, 1]`. -/
abbrev rowTake {N C R S : ℕ} (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- A take of whole rows, read at an entry: the row at the position, cut to the table, at the entry's column. -/
theorem rowTake_at {α : Type} {N C R S w : ℕ} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (k : IVec ⟨3, ![R, S, 1]⟩ w) (i : Fin R) (s : Fin S) (d : Fin C) :
    Host.gather (rowTake wf) x k (ix3 i s d) = x (ix2 ⟨min (k (ix3 i s 0)).toInt.toNat (N - 1), by omega⟩ d) := by
  have at_start : (rowTake wf).siIdx (ix3 i s d) ⟨List.idxOf (0 : Fin 2) (rowTake wf).startIndexMap,
      List.idxOf_lt_length_iff.2 (List.mem_singleton.mpr rfl)⟩ = ix3 i s 0 := by
    funext c
    apply Fin.ext
    match c with
    | ⟨0, _⟩ => rfl
    | ⟨1, _⟩ => rfl
    | ⟨2, _⟩ => rfl
  have kept : (1 : Fin 2) ∈ (rowTake wf).sKept := (GatherDims.mem_sKept _ _).mpr ⟨by simp, List.not_mem_nil⟩
  unfold Host.gather
  congr 1
  funext a
  apply Fin.ext
  change (rowTake wf).start (ix3 i s d) k a + (rowTake wf).batchCoord (ix3 i s d) a + (rowTake wf).offCoord (ix3 i s d) a = _
  rw [GatherDims.batchCoord_eq_zero _ _ _ List.not_mem_nil, Nat.add_zero]
  match a with
  | ⟨0, _⟩ =>
    change (rowTake wf).start (ix3 i s d) k 0 + (rowTake wf).offCoord (ix3 i s d) 0 = _
    rw [GatherDims.offCoord_eq_zero _ _ _ fun h => ((GatherDims.mem_sKept _ _).mp h).1 (List.mem_singleton.mpr rfl), Nat.add_zero]
    unfold GatherDims.start
    rw [dif_pos (show (0 : Fin 2) ∈ (rowTake wf).startIndexMap from List.mem_singleton.mpr rfl), at_start]
    rfl
  | ⟨1, _⟩ =>
    change (rowTake wf).start (ix3 i s d) k 1 + (rowTake wf).offCoord (ix3 i s d) 1 = _
    unfold GatherDims.start GatherDims.offCoord
    rw [dif_neg (show (1 : Fin 2) ∉ (rowTake wf).startIndexMap by simp), dif_pos kept, Nat.zero_add]
    rfl

/-- A codeword's number as a word is the number. -/
theorem num_toInt (k : Fin 2048) : (BitVec.ofNat 32 k.val).toInt = k.val := by
  have := k.isLt
  rw [BitVec.toInt_eq_toNat_of_lt] <;> simp only [BitVec.toNat_ofNat] <;> omega

/-- The position that is read is the given one, unless that is negative. -/
theorem startA_at (a : Vec Ideal S8x1024 .i32) (i : Fin 8) (s : Fin 1024) (k : Fin 2048) (h : a (ix2 i s) = BitVec.ofNat 32 k.val) :
    startA a (ix3 i s 0) = BitVec.ofNat 32 k.val := by
  pointwise [startA]
  have e : IntOp.cmpi .slt (BitVec.ofNat 32 k.val) 0#32 = 0#1 := by
    simp only [IntOp.cmpi, BitVec.slt, num_toInt, BitVec.toInt_zero, Int.not_lt.mpr (Int.natCast_nonneg k.val), decide_false, BitVec.ofBool_false]; rfl
  rw [h, e]
  rfl

/-- A codeword's number lies inside the codebook. -/
theorem insideA_at (p : Vec Ideal S8x1024x1 .i32) (i : Fin 8) (s : Fin 1024) (k : Fin 2048) (h : p (ix3 i s 0) = BitVec.ofNat 32 k.val) :
    insideA p (ix2 i s) = 1#1 := by
  have e1 : IntOp.cmpi .sge (BitVec.ofNat 32 k.val) 0#32 = 1#1 := by
    simp only [IntOp.cmpi, BitVec.sle, num_toInt, BitVec.toInt_zero, Int.natCast_nonneg k.val, decide_true, BitVec.ofBool_true]; rfl
  have e2 : IntOp.cmpi .sle (BitVec.ofNat 32 k.val) 2047#32 = 1#1 := by
    have hk : (k.val : ℤ) ≤ (2047#32).toInt := by
      have : (2047#32).toInt = 2047 := by decide
      have := k.isLt
      omega
    simp only [IntOp.cmpi, BitVec.sle, num_toInt, hk, decide_true, BitVec.ofBool_true]; rfl
  pointwise [insideA]
  rw [Finset.univ_unique, Finset.fold_singleton, show (default : Fin 1) = 0 from rfl, h, e1, e2]
  rfl

/-- The file's take is a take of whole rows. -/
theorem take_is : gather_S2048x512_S8x1024x1_S8x1024x512_2_0_n_n_0_2_1512
    = rowTake gather_S2048x512_S8x1024x1_S8x1024x512_2_0_n_n_0_2_1512_wf := rfl

/-- The rows taken at codewords' numbers are the codewords. -/
theorem takeA_real {b : Vec Ideal S2048x512 .f32} {B : Book} {a : Vec Ideal S8x1024 .i32} {K : Fin 8 → Fin 1024 → Fin 2048}
    (hb : IsBook b B) (ha : Nums a K) : Rows (takeA b a) fun i s => B (K i s) := by
  intro i s d
  have h1 := startA_at a i s (K i s) (ha i s)
  have h2 := insideA_at (startA a) i s (K i s) h1
  unfold takeA
  pointwise
  rw [h2, take_is]
  refine (rowTake_at (by norm_num) _ b (startA a) i s d).trans (Eq.trans (congrArg b ?_) (hb (K i s) d))
  refine congrArg (fun k : Fin 2048 => ix2 k d) (Fin.ext ?_)
  change min (startA a (ix3 i s 0)).toInt.toNat (2048 - 1) = (K i s).val
  rw [h1, num_toInt, Int.toNat_natCast]
  have := (K i s).isLt
  omega

end Cert.Rvq.Ref

end
-- ==== Proof.RefMean.lean ====
/- What one level of the reference adds to the loss, and the codebook that it reads, when the arrays are real. -/
module

public import proofs.«01_k».proof.Proof.RefValues
public import proofs.«01_k».proof.Proof.KernelEnd

@[expose] public section

set_option maxRecDepth 16384

noncomputable section

namespace Cert.Rvq.Ref

open Idealize.ShloMosaic Idealize.ShloMosaic.Tactic Cert.ReferenceIdeal Cert.ReferenceIdeal.Facts₀ Cert.ReferenceIdeal.Facts

/-- The word of a quarter. -/
theorem quarter_bits : Ideal.ofBits .f32 1048576000#32 = ((1 / 4 : ℝ) : EReal) := by
  simp [Ideal.ofBits, Ideal.ieee, -EReal.coe_mul]
  norm_num

/-- A level's codebook is that level of the codebooks. -/
theorem bookA_at (cb : Vec Ideal S8x2048x512 .f32) (l : Fin 8) (h) (k : Fin 2048) (d : Fin 512) :
    bookA cb ![l.val, 0, 0] h (ix2 k d) = cb (ix3 l k d) := by
  pointwise

/-- A level's codebook is real where the codebooks are. -/
theorem bookA_real {cb : Vec Ideal S8x2048x512 .f32} {C : Fin 8 → Book} (hc : ∀ l k d, cb (ix3 l k d) = ((C l k d : ℝ) : EReal))
    (l : Fin 8) (h) : IsBook (bookA cb ![l.val, 0, 0] h) (C l) := fun k d => (bookA_at cb l h k d).trans (hc l k d)

/-- The mean of the squares, as a sum. -/
theorem meanA_at (e : Vec Ideal S8x1024x512 .f32) (j : S_.Idx) :
    meanA e j = Ideal.div (∑ i, ∑ s, ∑ d, e (ix3 i s d) * e (ix3 i s d)) ((4194304 : ℝ) : EReal) := by
  pointwise [meanA]
  rw [bits_elems]

/-- The mean of the squares of reals. -/
def meanR (E : Fin 8 → Fin 1024 → Row) : ℝ := (∑ i, ∑ s, ∑ d, E i s d * E i s d) / 4194304

/-- With real entries, the mean of the squares is the real one. -/
theorem meanA_real {e : Vec Ideal S8x1024x512 .f32} {E : Fin 8 → Fin 1024 → Row} (he : Rows e E) (j : S_.Idx) :
    meanA e j = ((meanR E : ℝ) : EReal) := by
  rw [meanA_at]
  simp only [he _ _ _, ← EReal.coe_mul, ← coe_sum]
  exact div_real _ _ (by norm_num)

/-- With a real loss and real entries, the loss after one more level is real. -/
theorem lossA_real {z : Vec Ideal S_ .f32} {e : Vec Ideal S8x1024x512 .f32} {E : Fin 8 → Fin 1024 → Row} {y : ℝ} (he : Rows e E)
    (hz : ∀ j, z j = ((y : ℝ) : EReal)) (j : S_.Idx) : lossA z e j = ((y + 1.25 * meanR E : ℝ) : EReal) := by
  pointwise [lossA]
  rw [hz, meanA_real he, quarter_bits, ← EReal.coe_mul, ← EReal.coe_add, ← EReal.coe_add]
  congr 1
  ring

end Cert.Rvq.Ref

end
-- ==== Proof.RefRun.lean ====
/- The reference's arrays before every level, when its arguments are real: the mathematics' residuals, sums, choices and losses. -/
module

public import proofs.«01_k».proof.Proof.RefEnd
public import proofs.«01_k».proof.Proof.RefTake
public import proofs.«01_k».proof.Proof.RefMean

@[expose] public section

set_option maxRecDepth 16384

noncomputable section

namespace Cert.Rvq.Ref

open Idealize.ShloMosaic Idealize.ShloMosaic.Tactic Cert.ReferenceIdeal Cert.ReferenceIdeal.Facts₀ Cert.ReferenceIdeal.Facts

/-! ## Differences and sums of real arrays -/

/-- The difference of real arrays is the real one. -/
theorem rows_sub {x y : Vec Ideal S8x1024x512 .f32} {R S : Fin 8 → Fin 1024 → Row} (hx : Rows x R) (hy : Rows y S) :
    Rows (subA x y) fun i s d => R i s d - S i s d := by
  intro i s d
  pointwise
  rw [hx, hy, ← EReal.coe_sub]

/-- The sum of real arrays is the real one. -/
theorem rows_add {x y : Vec Ideal S8x1024x512 .f32} {R S : Fin 8 → Fin 1024 → Row} (hx : Rows x R) (hy : Rows y S) :
    Rows (addA x y) fun i s d => R i s d + S i s d := by
  intro i s d
  pointwise
  rw [hx, hy, ← EReal.coe_add]

/-! ## The arrays before a level -/

variable (x : Vec Ideal S8x1024x512 .f32) (cb : Vec Ideal S8x2048x512 .f32) (X : Fin 8 → Fin 1024 → Row) (C : ℕ → Book)

/-- What level `k` adds to the loss. -/
def levelLoss (k : ℕ) : ℝ := 1.25 * ((∑ i, ∑ s, err (X i s) C k) / 4194304)

/-- The arrays before level `l` are the mathematics' ones. -/
structure At (l : ℕ) (W : Valuation τ sig (Elt Ideal)) : Prop where
  arg0 : W (Proc.devRef .tc main_arg0) = x
  arg1 : W (Proc.devRef .tc main_arg1) = cb
  res : Rows (resOf l W) fun i s => resid (X i s) C l
  sum : Rows (sumOf l W) fun i s => qsum (X i s) C l
  loss : ∀ j, lossOf l W j = ((∑ k ∈ Finset.range l, levelLoss X C k : ℝ) : EReal)
  idx : ∀ k < l, Nums (idxOf k W) fun i s => pick (X i s) C k

variable {x cb X C}

/-- The codebook that a level reads is the mathematics' one. -/
theorem bookOf_real (hc : ∀ (l : Fin 8) k d, cb (ix3 l k d) = ((C l.val k d : ℝ) : EReal)) (W : Valuation τ sig (Elt Ideal))
    (h : W (Proc.devRef .tc main_arg1) = cb) (l : ℕ) (hl : l < 8) : IsBook (bookOf l W) (C l) := by
  subst h
  have e := fun l : Fin 8 => bookA_real (C := fun l => C l.val) hc l
  interval_cases l
  · exact e 0 _
  · exact e 1 _
  · exact e 2 _
  · exact e 3 _
  · exact e 4 _
  · exact e 5 _
  · exact e 6 _
  · exact e 7 _

/-- Before the first level nothing is chosen. -/
theorem at_start (hx : Rows x X) (V : Valuation τ sig (Elt Ideal)) (h0 : V (Proc.devRef .tc main_arg0) = x)
    (h1 : V (Proc.devRef .tc main_arg1) = cb) : At x cb X C 0 (before V 0) where
  arg0 := (opening_arg0 V).trans h0
  arg1 := (opening_arg1 V).trans h1
  res := by
    have e : resOf 0 (before V 0) = x := (opening_arg0 V).trans h0
    rw [e]
    exact hx
  sum := by
    have e := opening_sum V
    unfold before
    rw [e]
    intro i s d
    pointwise
    exact EReal.coe_zero.symm
  loss := fun _ => by
    rw [Finset.sum_range_zero]
    exact zero_bits
  idx := fun k hk => absurd hk (Nat.not_lt_zero k)

/-- A level keeps the arrays the mathematics' ones. -/
theorem at_step (hc : ∀ (l : Fin 8) k d, cb (ix3 l k d) = ((C l.val k d : ℝ) : EReal)) {l : ℕ} (hl : l < 8)
    {V W : Valuation τ sig (Elt Ideal)} (h : At x cb X C l V) (hd : Does l V W) : At x cb X C (l + 1) W := by
  have hb := bookOf_real hc V h.arg1 l hl
  have hi := argA_real h.res hb
  have ht : Rows (chosenA (resOf l V) (bookOf l V)) fun i s => C l (pick (X i s) C l) := takeA_real hb hi
  have hs : Rows (subA (resOf l V) (chosenA (resOf l V) (bookOf l V))) fun i s => resid (X i s) C (l + 1) := rows_sub h.res ht
  refine ⟨hd.arg0.trans h.arg0, hd.arg1.trans h.arg1, ?_, ?_, fun j => ?_, fun k hk => ?_⟩
  · rw [hd.res]
    exact hs
  · rw [hd.sum]
    exact rows_add h.sum ht
  · rw [hd.loss, Finset.sum_range_succ]
    refine (lossA_real hs h.loss j).trans ?_
    congr 2
    unfold levelLoss meanR
    simp only [err_eq]
    rfl
  · rcases Nat.lt_succ_iff_lt_or_eq.mp hk with hk | rfl
    · rw [hd.old k hk]
      exact h.idx k hk
    · rw [hd.idx]
      exact hi

/-- The arrays before every level are the mathematics' ones. -/
theorem at_level (hx : Rows x X) (hc : ∀ (l : Fin 8) k d, cb (ix3 l k d) = ((C l.val k d : ℝ) : EReal))
    (V : Valuation τ sig (Elt Ideal)) (h0 : V (Proc.devRef .tc main_arg0) = x) (h1 : V (Proc.devRef .tc main_arg1) = cb) (l : ℕ)
    (hl : l ≤ 8) : At x cb X C l (before V l) := by
  induction l with
  | zero => exact at_start hx V h0 h1
  | succ l ih => exact at_step hc (by omega) (ih (by omega)) (level_does l (by omega) (before V l))

end Cert.Rvq.Ref

end
-- ==== Proof.LossSum.lean ====
/- The kernel's sum over points and the reference's sums over levels are the same sum. -/
module

public import proofs.«01_k».proof.Proof.Tile

@[expose] public section

noncomputable section

namespace Cert.Rvq

/-- A sum over `m` blocks of `n`. -/
theorem sum_blocks (f : ℕ → ℝ) (m n : ℕ) :
    ∑ v ∈ Finset.range (m * n), f v = ∑ a ∈ Finset.range m, ∑ b ∈ Finset.range n, f (n * a + b) := by
  induction m with
  | zero => simp
  | succ m ih => rw [Nat.succ_mul, Finset.sum_range_add, ih, Finset.sum_range_succ, Nat.mul_comm m n]

/-- The same with numbers below a bound as indices. -/
theorem sum_blocks_fin (f : ℕ → ℝ) (m n : ℕ) : ∑ v ∈ Finset.range (m * n), f v = ∑ a : Fin m, ∑ b : Fin n, f (n * a.val + b.val) := by
  rw [sum_blocks, ← Fin.sum_univ_eq_sum_range (fun a => ∑ b ∈ Finset.range n, f (n * a + b))]
  exact Finset.sum_congr rfl fun a _ => (Fin.sum_univ_eq_sum_range (fun b => f (n * a.val + b)) n).symm

/-- The sum over the 128 points is, level by level, the sum over all the rows. -/
theorem lossSum_eq (X : ℕ → Row) (C : ℕ → Book) :
    lossSum X C 128 = ∑ k ∈ Finset.range 8, 1.25 * ∑ i : Fin 8, ∑ s : Fin 1024, err (X (1024 * i.val + s.val)) C k := by
  have rows : ∀ k, ∑ i : Fin 8, ∑ s : Fin 1024, err (X (1024 * i.val + s.val)) C k
      = ∑ T ∈ Finset.range 16, ∑ p : Fin 512, err (tileRow X T p) C k := fun k => by
    rw [← sum_blocks_fin (fun n => err (X n) C k) 8 1024, ← Fin.sum_univ_eq_sum_range (fun T => ∑ p : Fin 512, err (tileRow X T p) C k)]
    exact sum_blocks_fin (fun n => err (X n) C k) 16 512
  unfold lossSum
  rw [show 128 = 16 * 8 from rfl, sum_blocks _ 16 8, Finset.sum_comm]
  refine Finset.sum_congr rfl fun k hk => ?_
  rw [rows, Finset.mul_sum]
  refine Finset.sum_congr rfl fun T _ => ?_
  have hk : k < 8 := Finset.mem_range.mp hk
  rw [show (8 * T + k) / 8 = T by omega, show (8 * T + k) % 8 = k by omega]

end Cert.Rvq

end
-- ==== Proof.RefResult.lean ====
/- The reference's results, when its arguments are real. -/
module

public import proofs.«01_k».proof.Proof.RefRun
public import proofs.«01_k».proof.Proof.LossSum

@[expose] public section

set_option maxRecDepth 16384

noncomputable section

namespace Cert.Rvq.Ref

open Idealize.ShloMosaic Idealize.ShloMosaic.Tactic Cert.ReferenceIdeal Cert.ReferenceIdeal.Facts₀ Cert.ReferenceIdeal.Facts

/-- The positions side by side, read at an entry. -/
theorem indicesA_at (a : ℕ → Vec Ideal S8x1024 .i32) (i : Fin 8) (s : Fin 1024) (l : Fin 8) :
    indicesA a (ix3 i s l) = a l.val (ix2 i s) := by
  unfold indicesA
  fin_cases l <;> pointwise

/-- The reference's three results are the mathematics' ones. -/
theorem reference_values {x : Vec Ideal S8x1024x512 .f32} {cb : Vec Ideal S8x2048x512 .f32} {X : ℕ → Row} {C : ℕ → Book}
    (hx : Rows x fun i s => X (1024 * i.val + s.val)) (hc : ∀ (l : Fin 8) k d, cb (ix3 l k d) = ((C l.val k d : ℝ) : EReal))
    (V : Valuation τ sig (Elt Ideal)) (h0 : V (Proc.devRef .tc main_arg0) = x) (h1 : V (Proc.devRef .tc main_arg1) = cb) :
    ResultsAre X C (StableHlo.after line.1 V (Proc.devRef .tc main_v250)) (StableHlo.after line.1 V (Proc.devRef .tc main_v259))
      (StableHlo.after line.1 V (Proc.devRef .tc main_v260)) := by
  have h := at_level hx hc V h0 h1 8 le_rfl
  have e0 : resOf 0 (before V 8) = x := h.arg0
  rw [after_line, closing_quant, closing_index, closing_loss, e0]
  constructor
  · intro i s d
    refine (rows_add hx (rows_sub h.sum hx) i s d).trans ?_
    exact congrArg Real.toEReal (add_sub_cancel _ _)
  · intro i s l
    rw [indicesA_at]
    exact h.idx l.val l.isLt i s
  · intro j
    pointwise
    rw [h.loss, bits_eight, div_real _ _ (by norm_num), lossSum_eq]
    congr 2
    rw [Finset.sum_div]
    refine Finset.sum_congr rfl fun k _ => ?_
    unfold levelLoss
    ring

end Cert.Rvq.Ref

end
-- ==== Proof.Equal.lean ====
/- The two programs, from the same real arguments, end with the same results. -/
module

public import proofs.«01_k».proof.Defs
public import proofs.«01_k».proof.Proof.Gen.Pre_finite
public import proofs.«01_k».proof.Proof.Gen.KernelIdeal
public import proofs.«01_k».proof.Proof.Gen.ReferenceIdeal
public import proofs.«01_k».proof.Proof.Finite
public import proofs.«01_k».proof.Proof.RefResult

@[expose] public section

noncomputable section

namespace Cert.Rvq

open Idealize.ShloMosaic Idealize.ShloMosaic.Tactic Idealize.SL.Sem

variable (X : ℕ → Row) (C : ℕ → Book)

/-- The quantized rows. -/
def quantOf : Vec Ideal Cert.KernelIdeal.S8x1024x512 .f32 := fun j => ((qsum (X (1024 * (j 0).val + (j 1).val)) C 8 (j 2) : ℝ) : EReal)

/-- The chosen codewords' numbers. -/
def indexOf : Vec Ideal Cert.KernelIdeal.S8x1024x8 .i32 := fun j => BitVec.ofNat 32 (pick (X (1024 * (j 0).val + (j 1).val)) C (j 2).val).val

/-- The loss. -/
def lossOf : Vec Ideal Cert.KernelIdeal.S_ .f32 := fun _ => ((lossSum X C 128 / 4194304 / 8 : ℝ) : EReal)

variable {X C}

/-- The results are determined by the rows and the books. -/
theorem results_eq {q : Vec Ideal Cert.KernelIdeal.S8x1024x512 .f32} {i : Vec Ideal Cert.KernelIdeal.S8x1024x8 .i32} {z : Vec Ideal Cert.KernelIdeal.S_ .f32}
    (h : ResultsAre X C q i z) : q = quantOf X C ∧ i = indexOf X C ∧ z = lossOf X C := by
  refine ⟨funext fun j => ?_, funext fun j => ?_, funext fun j => h.loss j⟩
  · exact (congrArg q (idx3_eta j)).trans (h.quant (j 0) (j 1) (j 2))
  · exact (congrArg i (idx3_eta j)).trans (h.index (j 0) (j 1) (j 2))

/-- A real first argument holds its rows. -/
theorem rows_hold {x : Vec Ideal Cert.KernelIdeal.S8x1024x512 .f32} (h : ∀ j, x j = ((EReal.toReal (x j) : ℝ) : EReal)) :
    Ref.Rows x fun i s => rowsOf x (1024 * i.val + s.val) := by
  intro i s d
  have hi := i.isLt
  have hs := s.isLt
  refine (h _).trans (congrArg (fun j => ((EReal.toReal (x j) : ℝ) : EReal)) ?_)
  exact congrArg₂ (fun (a : Fin 8) (b : Fin 1024) => ix3 a b d) (Fin.ext (by change i.val = (1024 * i.val + s.val) / 1024 % 8; omega))
    (Fin.ext (by change s.val = (1024 * i.val + s.val) % 1024; omega))

/-- A real second argument holds its books. -/
theorem books_hold {cb : Vec Ideal Cert.KernelIdeal.S8x2048x512 .f32} (h : ∀ j, cb j = ((EReal.toReal (cb j) : ℝ) : EReal)) (l : Fin 8) (k : Fin 2048)
    (d : Fin 512) : cb (ix3 l k d) = ((booksOf cb l.val k d : ℝ) : EReal) := by
  have hl := l.isLt
  refine (h _).trans (congrArg (fun j => ((EReal.toReal (cb j) : ℝ) : EReal)) ?_)
  exact congrArg (fun (a : Fin 8) => ix3 a k d) (Fin.ext (by change l.val = l.val % 8; omega))

end Cert.Rvq

namespace Cert.Proof

open Idealize.ShloMosaic Idealize.SL.Sem Cert.Rvq

/-- From real arguments the idealized kernel and the reference end with the same three results. -/
theorem equal : algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  have hreal := finite_reads _ _ (hpre 0)
  have hrows := rows_hold hreal.1
  have hbooks := books_hold hreal.2
  have hgood := good_of_real m 0 hreal
  generalize hX : rowsOf (m (((0 : Dev Cert.KernelIdeal.nD).tc : Thread Cert.KernelIdeal.nD Cert.KernelIdeal.τ).loc Cert.KernelIdeal.main_arg0)) = X at hrows hgood
  generalize hC : booksOf (m (((0 : Dev Cert.KernelIdeal.nD).tc : Thread Cert.KernelIdeal.nD Cert.KernelIdeal.τ).loc Cert.KernelIdeal.main_arg1)) = C at hbooks hgood
  refine ⟨fun _ => quantOf X C, fun _ => indexOf X C, fun _ => lossOf X C, ?_, ?_⟩
  · refine (θ_run _ _ _).mono (fun r h c => ?_) (kernel_run m g X C)
    obtain rfl : c = 0 := Subsingleton.elim _ _
    have hc := h.1 0
    have e := results_eq (hc.2.2 hgood)
    exact ⟨e.1, e.2.1, e.2.2, hc.1, hc.2.1⟩
  · refine (θ_run _ _ _).mono (fun r h c => ?_) (Ref.line_run m' g')
    obtain rfl : c = 0 := Subsingleton.elim _ _
    have a0 := (hargs 0).1
    have a1 := (hargs 0).2
    have e := results_eq (Ref.reference_values hrows hbooks (StableHlo.launchContents m' 0) a0 a1)
    refine ⟨(h 0 _).trans e.1, (h 0 _).trans e.2.1, (h 0 _).trans e.2.2, (h 0 _).trans ?_, (h 0 _).trans ?_⟩
    · rw [Ref.after_line, Ref.closing_arg0]
      exact ((Ref.at_level hrows hbooks (StableHlo.launchContents m' 0) a0 a1 8 le_rfl).arg0).trans a0.symm
    · rw [Ref.after_line, Ref.closing_arg1]
      exact ((Ref.at_level hrows hbooks (StableHlo.launchContents m' 0) a0 a1 8 le_rfl).arg1).trans a1.symm

end Cert.Proof

end
-- ==== Proof.lean ====
module

public import proofs.«01_k».proof.Defs
public import proofs.«01_k».proof.Proof.Gen.Kernel
public import proofs.«01_k».proof.Proof.Gen.Pre_finite
public import proofs.«01_k».proof.Proof.Gen.Kernel.Skeleton
public import proofs.«01_k».proof.Proof.Gen.Kernel.Launch
public import proofs.«01_k».proof.Proof.Gen.Kernel.Points
public import proofs.«01_k».proof.Proof.KernelFrame.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelEnd
public import proofs.«01_k».proof.Proof.ReferenceFrame
public import proofs.«01_k».proof.Proof.Equal
public import Idealize.ShloMosaic.Adequacy
public import Idealize.ShloMosaic.Init

@[expose] public section

noncomputable section

namespace Cert.Proof

open Idealize.ShloMosaic Idealize.SL.Sem Cert.Rvq

/-- The idealized kernel leaves both of its arguments as they were and every counter at zero. -/
theorem kernel_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  (θ_run _ _ _).mono (fun _ h => ⟨fun c => ⟨(h.1 c).1, (h.1 c).2.1⟩, h.2⟩) (kernel_run m g (fun _ => 0) (fun _ => 0))

/-- The certificate's claims, assembled. -/
theorem claim : Cert.Claim := ⟨Cert.Kernel.Gen.facts, Cert.KernelIdeal.Gen.facts, Cert.ReferenceIdeal.Gen.facts, Cert.Pre_finite.Gen.facts,
  fun m ρ _ => Cert.Kernel.Whole.frame m ρ,
  fun m ρ _ => kernel_frame m ρ,
  fun m ρ _ => kernel_frame m ρ,
  fun m ρ _ => reference_frame m ρ,
  fun m ρ _ => reference_frame m ρ,
  trivial,
  equal⟩

end Cert.Proof

end
